-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![16, 16, 16]⟩ ⟨3, ![32, 32, 64]⟩ (Layout.meshBlock [2, 2, 4] ![[0], [1], [2]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![16, 16, 16]⟩ ⟨3, ![32, 32, 64]⟩ (Layout.meshBlock [2, 2, 4] ![[0], [1], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x16x16 : Shape := ⟨3, ![16, 16, 16]⟩
abbrev S1x16x16 : Shape := ⟨3, ![1, 16, 16]⟩
abbrev S16x1x16 : Shape := ⟨3, ![16, 1, 16]⟩
abbrev S16x16x1 : Shape := ⟨3, ![16, 16, 1]⟩
abbrev S6 : Shape := ⟨1, ![6]⟩
abbrev S_ : Shape := ⟨0, ![]⟩
abbrev S1 : Shape := ⟨1, ![1]⟩
abbrev S18x16x16 : Shape := ⟨3, ![18, 16, 16]⟩
abbrev S16x18x16 : Shape := ⟨3, ![16, 18, 16]⟩
abbrev S16x16x18 : Shape := ⟨3, ![16, 16, 18]⟩

abbrev nBuf : Space → Nat
  | .hbm => 2
  | .vmem => 14
  | .smem => 0
  | _ => 0

abbrev bufTy : (tb : Table) → Fin (tcTables nBuf tb) → BufTy
  | .hbm, ⟨0, _⟩ => ⟨S16x16x16, .f32⟩
  | .hbm, ⟨1, _⟩ => ⟨S16x16x16, .f32⟩
  | .local _ .vmem, ⟨0, _⟩ => ⟨S16x16x16, .f32⟩
  | .local _ .vmem, ⟨1, _⟩ => ⟨S16x16x16, .f32⟩
  | .local _ .vmem, ⟨2, _⟩ => ⟨S1x16x16, .f32⟩
  | .local _ .vmem, ⟨3, _⟩ => ⟨S1x16x16, .f32⟩
  | .local _ .vmem, ⟨4, _⟩ => ⟨S16x1x16, .f32⟩
  | .local _ .vmem, ⟨5, _⟩ => ⟨S16x1x16, .f32⟩
  | .local _ .vmem, ⟨6, _⟩ => ⟨S16x16x1, .f32⟩
  | .local _ .vmem, ⟨7, _⟩ => ⟨S16x16x1, .f32⟩
  | .local _ .vmem, ⟨8, _⟩ => ⟨S1x16x16, .f32⟩
  | .local _ .vmem, ⟨9, _⟩ => ⟨S1x16x16, .f32⟩
  | .local _ .vmem, ⟨10, _⟩ => ⟨S16x1x16, .f32⟩
  | .local _ .vmem, ⟨11, _⟩ => ⟨S16x1x16, .f32⟩
  | .local _ .vmem, ⟨12, _⟩ => ⟨S16x16x1, .f32⟩
  | .local _ .vmem, ⟨13, _⟩ => ⟨S16x16x1, .f32⟩
  | _, _ => ⟨S16x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_scratch10 : Ref sig .tc := ⟨.vmem, 12, rfl⟩
abbrev cc0_scratch11 : Ref sig .tc := ⟨.vmem, 13, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_7 : BitVec 32 := 8#32
  let v14 : BitVec 32 := Scalar.muli v9 c8_i32_7
  let v15 : BitVec 32 := Scalar.addi c0_i32 v14
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_8 : BitVec 32 := 4#32
  let v16 : BitVec 32 := Scalar.muli v5 c4_i32_8
  let v17 : BitVec 32 := Scalar.addi v15 v16
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v18 : BitVec 32 := Scalar.muli v8 c1_i32_9
  let v19 : BitVec 32 := Scalar.addi v17 v18
  v19.toNat
def k0_dev2 (d0 : Dev nD) : Nat :=
  let c0_i32_12 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_11 : BitVec 32 := 8#32
  let v20 : BitVec 32 := Scalar.muli v2 c8_i32_11
  let v21 : BitVec 32 := Scalar.addi c0_i32_12 v20
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_13 : BitVec 32 := 4#32
  let v22 : BitVec 32 := Scalar.muli v10 c4_i32_13
  let v23 : BitVec 32 := Scalar.addi v21 v22
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_14 : BitVec 32 := 1#32
  let v24 : BitVec 32 := Scalar.muli v8 c1_i32_14
  let v25 : BitVec 32 := Scalar.addi v23 v24
  v25.toNat
def k0_cond1 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_15 : BitVec 32 := 0#32
  let v26 : BitVec 1 := Scalar.cmpi .sgt v8 c0_i32_15
  let v27 : BitVec 32 := Scalar.extui v26
  let c0_i32_16 : BitVec 32 := 0#32
  let v28 : BitVec 1 := Scalar.cmpi .ne v27 c0_i32_16
  v28

def k0_dev3 (d0 : Dev nD) : Nat :=
  let c0_i32_85 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_84 : BitVec 32 := 8#32
  let v137 : BitVec 32 := Scalar.muli v2 c8_i32_84
  let v138 : BitVec 32 := Scalar.addi c0_i32_85 v137
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_86 : BitVec 32 := 4#32
  let v139 : BitVec 32 := Scalar.muli v5 c4_i32_86
  let v140 : BitVec 32 := Scalar.addi v138 v139
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.subi v8 c1_i32_5
  let c1_i32_87 : BitVec 32 := 1#32
  let v141 : BitVec 32 := Scalar.muli v12 c1_i32_87
  let v142 : BitVec 32 := Scalar.addi v140 v141
  v142.toNat
def k0_cond2 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v29 : BitVec 1 := Scalar.cmpi .slt v8 c3_i32
  let v30 : BitVec 32 := Scalar.extui v29
  let c0_i32_17 : BitVec 32 := 0#32
  let v31 : BitVec 1 := Scalar.cmpi .ne v30 c0_i32_17
  v31

def k0_dev4 (d0 : Dev nD) : Nat :=
  let c0_i32_85 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_84 : BitVec 32 := 8#32
  let v137 : BitVec 32 := Scalar.muli v2 c8_i32_84
  let v138 : BitVec 32 := Scalar.addi c0_i32_85 v137
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_86 : BitVec 32 := 4#32
  let v139 : BitVec 32 := Scalar.muli v5 c4_i32_86
  let v140 : BitVec 32 := Scalar.addi v138 v139
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c1_i32_87 : BitVec 32 := 1#32
  let v141 : BitVec 32 := Scalar.muli v11 c1_i32_87
  let v142 : BitVec 32 := Scalar.addi v140 v141
  v142.toNat
def k0_amt1 (d0 : Dev nD) : BitVec 32 :=
  let c2_i32_21 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_18 : BitVec 32 := 0#32
  let v32 : BitVec 1 := Scalar.cmpi .sgt v8 c0_i32_18
  let c1_i32_19 : BitVec 32 := 1#32
  let c0_i32_20 : BitVec 32 := 0#32
  let v33 : BitVec 32 := Scalar.select v32 c1_i32_19 c0_i32_20
  let v34 : BitVec 32 := Scalar.addi c2_i32_21 v33
  let c3_i32_22 : BitVec 32 := 3#32
  let v35 : BitVec 1 := Scalar.cmpi .slt v8 c3_i32_22
  let c1_i32_23 : BitVec 32 := 1#32
  let c0_i32_24 : BitVec 32 := 0#32
  let v36 : BitVec 32 := Scalar.select v35 c1_i32_23 c0_i32_24
  let v37 : BitVec 32 := Scalar.addi v34 v36
  v37

def k0_cond3 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_25 : BitVec 32 := 1#32
  let v38 : BitVec 1 := Scalar.cmpi .eq v2 c1_i32_25
  let v39 : BitVec 32 := Scalar.extui v38
  let c0_i32_26 : BitVec 32 := 0#32
  let v40 : BitVec 1 := Scalar.cmpi .ne v39 c0_i32_26
  v40

def k0_dev5 (d0 : Dev nD) : Nat :=
  let c0_i32_92 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_91 : BitVec 32 := 8#32
  let v142 : BitVec 32 := Scalar.muli v9 c8_i32_91
  let v143 : BitVec 32 := Scalar.addi c0_i32_92 v142
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_93 : BitVec 32 := 4#32
  let v144 : BitVec 32 := Scalar.muli v5 c4_i32_93
  let v145 : BitVec 32 := Scalar.addi v143 v144
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_94 : BitVec 32 := 1#32
  let v146 : BitVec 32 := Scalar.muli v8 c1_i32_94
  let v147 : BitVec 32 := Scalar.addi v145 v146
  v147.toNat
def k0_cond4 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_27 : BitVec 32 := 0#32
  let v41 : BitVec 1 := Scalar.cmpi .eq v2 c0_i32_27
  let v42 : BitVec 32 := Scalar.extui v41
  let c0_i32_28 : BitVec 32 := 0#32
  let v43 : BitVec 1 := Scalar.cmpi .ne v42 c0_i32_28
  v43

def k0_dev6 (d0 : Dev nD) : Nat :=
  let c0_i32_91 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_90 : BitVec 32 := 8#32
  let v142 : BitVec 32 := Scalar.muli v9 c8_i32_90
  let v143 : BitVec 32 := Scalar.addi c0_i32_91 v142
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_92 : BitVec 32 := 4#32
  let v144 : BitVec 32 := Scalar.muli v5 c4_i32_92
  let v145 : BitVec 32 := Scalar.addi v143 v144
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_93 : BitVec 32 := 1#32
  let v146 : BitVec 32 := Scalar.muli v8 c1_i32_93
  let v147 : BitVec 32 := Scalar.addi v145 v146
  v147.toNat
def k0_cond5 (d0 : Dev nD) : BitVec 1 :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_29 : BitVec 32 := 1#32
  let v44 : BitVec 1 := Scalar.cmpi .eq v5 c1_i32_29
  let v45 : BitVec 32 := Scalar.extui v44
  let c0_i32_30 : BitVec 32 := 0#32
  let v46 : BitVec 1 := Scalar.cmpi .ne v45 c0_i32_30
  v46

def k0_dev7 (d0 : Dev nD) : Nat :=
  let c0_i32_92 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_91 : BitVec 32 := 8#32
  let v142 : BitVec 32 := Scalar.muli v2 c8_i32_91
  let v143 : BitVec 32 := Scalar.addi c0_i32_92 v142
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_93 : BitVec 32 := 4#32
  let v144 : BitVec 32 := Scalar.muli v10 c4_i32_93
  let v145 : BitVec 32 := Scalar.addi v143 v144
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_94 : BitVec 32 := 1#32
  let v146 : BitVec 32 := Scalar.muli v8 c1_i32_94
  let v147 : BitVec 32 := Scalar.addi v145 v146
  v147.toNat
def k0_cond6 (d0 : Dev nD) : BitVec 1 :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_31 : BitVec 32 := 0#32
  let v47 : BitVec 1 := Scalar.cmpi .eq v5 c0_i32_31
  let v48 : BitVec 32 := Scalar.extui v47
  let c0_i32_32 : BitVec 32 := 0#32
  let v49 : BitVec 1 := Scalar.cmpi .ne v48 c0_i32_32
  v49

def k0_dev8 (d0 : Dev nD) : Nat :=
  let c0_i32_91 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_90 : BitVec 32 := 8#32
  let v142 : BitVec 32 := Scalar.muli v2 c8_i32_90
  let v143 : BitVec 32 := Scalar.addi c0_i32_91 v142
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_92 : BitVec 32 := 4#32
  let v144 : BitVec 32 := Scalar.muli v10 c4_i32_92
  let v145 : BitVec 32 := Scalar.addi v143 v144
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_93 : BitVec 32 := 1#32
  let v146 : BitVec 32 := Scalar.muli v8 c1_i32_93
  let v147 : BitVec 32 := Scalar.addi v145 v146
  v147.toNat
def k0_cond7 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_33 : BitVec 32 := 0#32
  let v50 : BitVec 1 := Scalar.cmpi .sgt v8 c0_i32_33
  let v51 : BitVec 32 := Scalar.extui v50
  let c0_i32_34 : BitVec 32 := 0#32
  let v52 : BitVec 1 := Scalar.cmpi .ne v51 c0_i32_34
  v52

def k0_dev9 (d0 : Dev nD) : Nat :=
  let c0_i32_92 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_91 : BitVec 32 := 8#32
  let v142 : BitVec 32 := Scalar.muli v2 c8_i32_91
  let v143 : BitVec 32 := Scalar.addi c0_i32_92 v142
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_93 : BitVec 32 := 4#32
  let v144 : BitVec 32 := Scalar.muli v5 c4_i32_93
  let v145 : BitVec 32 := Scalar.addi v143 v144
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.subi v8 c1_i32_5
  let c1_i32_94 : BitVec 32 := 1#32
  let v146 : BitVec 32 := Scalar.muli v12 c1_i32_94
  let v147 : BitVec 32 := Scalar.addi v145 v146
  v147.toNat
def k0_cond8 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_35 : BitVec 32 := 3#32
  let v53 : BitVec 1 := Scalar.cmpi .slt v8 c3_i32_35
  let v54 : BitVec 32 := Scalar.extui v53
  let c0_i32_36 : BitVec 32 := 0#32
  let v55 : BitVec 1 := Scalar.cmpi .ne v54 c0_i32_36
  v55

def k0_dev10 (d0 : Dev nD) : Nat :=
  let c0_i32_90 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_89 : BitVec 32 := 8#32
  let v142 : BitVec 32 := Scalar.muli v2 c8_i32_89
  let v143 : BitVec 32 := Scalar.addi c0_i32_90 v142
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_91 : BitVec 32 := 4#32
  let v144 : BitVec 32 := Scalar.muli v5 c4_i32_91
  let v145 : BitVec 32 := Scalar.addi v143 v144
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c1_i32_92 : BitVec 32 := 1#32
  let v146 : BitVec 32 := Scalar.muli v11 c1_i32_92
  let v147 : BitVec 32 := Scalar.addi v145 v146
  v147.toNat
abbrev stage0_0 : Fin 1 → Memref sig .tc .vmem S16x16x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x16x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S32x32x64 : Shape := ⟨3, ![32, 32, 64]⟩
abbrev S_ : Shape := ⟨0, ![]⟩
abbrev S30x30x62 : Shape := ⟨3, ![30, 30, 62]⟩
abbrev S1 : Shape := ⟨1, ![1]⟩
abbrev S3 : Shape := ⟨1, ![3]⟩

abbrev nBuf : Space → Nat
  | .hbm => 27
  | .vmem => 0
  | .smem => 0
  | _ => 0

abbrev bufTy : (tb : Table) → Fin (tcTables nBuf tb) → BufTy
  | .hbm, ⟨0, _⟩ => ⟨S32x32x64, .f32⟩
  | .hbm, ⟨1, _⟩ => ⟨S_, .f32⟩
  | .hbm, ⟨2, _⟩ => ⟨S32x32x64, .f32⟩
  | .hbm, ⟨3, _⟩ => ⟨S30x30x62, .f32⟩
  | .hbm, ⟨4, _⟩ => ⟨S30x30x62, .f32⟩
  | .hbm, ⟨5, _⟩ => ⟨S30x30x62, .f32⟩
  | .hbm, ⟨6, _⟩ => ⟨S30x30x62, .f32⟩
  | .hbm, ⟨7, _⟩ => ⟨S30x30x62, .f32⟩
  | .hbm, ⟨8, _⟩ => ⟨S30x30x62, .f32⟩
  | .hbm, ⟨9, _⟩ => ⟨S30x30x62, .f32⟩
  | .hbm, ⟨10, _⟩ => ⟨S30x30x62, .f32⟩
  | .hbm, ⟨11, _⟩ => ⟨S30x30x62, .f32⟩
  | .hbm, ⟨12, _⟩ => ⟨S30x30x62, .f32⟩
  | .hbm, ⟨13, _⟩ => ⟨S30x30x62, .f32⟩
  | .hbm, ⟨14, _⟩ => ⟨S30x30x62, .f32⟩
  | .hbm, ⟨15, _⟩ => ⟨S_, .f32⟩
  | .hbm, ⟨16, _⟩ => ⟨S30x30x62, .f32⟩
  | .hbm, ⟨17, _⟩ => ⟨S30x30x62, .f32⟩
  | .hbm, ⟨18, _⟩ => ⟨S30x30x62, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S3, .i32⟩
  | .hbm, ⟨26, _⟩ => ⟨S32x32x64, .f32⟩
  | _, _ => ⟨S32x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst_0 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_v16 : Ref sig .tc := ⟨.hbm, 20, rfl⟩
abbrev main_c_1 : Ref sig .tc := ⟨.hbm, 21, rfl⟩
abbrev main_v17 : Ref sig .tc := ⟨.hbm, 22, rfl⟩
abbrev main_c_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Proof.Mesh.lean ====
/-
# The mesh of sixteen devices, and the six directions of a halo exchange

Devices lie on a `2 × 2 × 4` grid: device `c` stands at `(c / 8, c / 4 % 2, c % 4)`. Six directions are numbered
`0 … 5`: towards smaller and larger `x`, then `y`, then `z`. The grid does not wrap around, so a device on its rim
has no neighbour in some directions (`has`). `nb` is nevertheless a permutation of the devices in every direction —
on the rim it wraps around —, which keeps sums and products over all devices free of side conditions.
-/
module

public import Idealize.ShloMosaic.Lib.Rounds
public import Mathlib.Tactic.FinCases
public import Mathlib.Data.Fintype.Prod
public import Mathlib.Data.Fintype.EquivFin

@[expose] public section

namespace Cert.Halo

open Idealize.ShloMosaic

/-- Device `c`'s place on the three axes of the grid. -/
def px (c : Dev 16) : ℕ := c.val / 8
def py (c : Dev 16) : ℕ := c.val / 4 % 2
def pz (c : Dev 16) : ℕ := c.val % 4

/-- Whether device `c` has a neighbour in direction `j`. -/
def has (j : Fin 6) (c : Dev 16) : Bool :=
  match j with
  | 0 => px c == 1
  | 1 => px c == 0
  | 2 => py c == 1
  | 3 => py c == 0
  | 4 => !(pz c == 0)
  | 5 => !(pz c == 3)

/-- The device in direction `j` of `c`, wrapping around. -/
def nb (j : Fin 6) (c : Dev 16) : Dev 16 :=
  match j with
  | 0 | 1 => Fin.ofNat 16 (c.val + 8)
  | 2 | 3 => Fin.ofNat 16 (c.val / 8 * 8 + (c.val % 8 + 4) % 8)
  | 4 => Fin.ofNat 16 (c.val / 4 * 4 + (c.val % 4 + 3) % 4)
  | 5 => Fin.ofNat 16 (c.val / 4 * 4 + (c.val % 4 + 1) % 4)

/-- The direction opposite to `j`. -/
def opp (j : Fin 6) : Fin 6 :=
  match j with
  | 0 => 1 | 1 => 0 | 2 => 3 | 3 => 2 | 4 => 5 | 5 => 4

theorem opp_opp (j : Fin 6) : opp (opp j) = j := by revert j; decide
theorem nb_opp (j : Fin 6) (c : Dev 16) : nb (opp j) (nb j c) = c := by revert j c; decide
theorem nb_opp' (j : Fin 6) (c : Dev 16) : nb j (nb (opp j) c) = c := by revert j c; decide
/-- If `c` has a neighbour in direction `j`, that neighbour has `c` in the opposite one. -/
theorem has_nb (j : Fin 6) (c : Dev 16) : has (opp j) (nb j c) = has j c := by revert j c; decide
theorem has_nb' (j : Fin 6) (c : Dev 16) : has j (nb (opp j) c) = has (opp j) c := by revert j c; decide
theorem nb_inj (j : Fin 6) {c d : Dev 16} (h : nb j c = nb j d) : c = d := by
  rw [← nb_opp j c, h, nb_opp]
theorem nb_eq_iff (j : Fin 6) (d c : Dev 16) : nb j d = c ↔ d = nb (opp j) c :=
  ⟨fun h => by rw [← h, nb_opp], fun h => by rw [h, nb_opp']⟩

/-- (device, direction) to (neighbour in that direction, the same direction). -/
def step : Dev 16 × Fin 6 ≃ Dev 16 × Fin 6 where
  toFun p := (nb p.2 p.1, p.2)
  invFun p := (nb (opp p.2) p.1, p.2)
  left_inv p := by simp only [nb_opp]
  right_inv p := by simp only [nb_opp']

end Cert.Halo
-- ==== Proof.KernelIdeal.Protocol.lean ====
/-
# The halo exchange as a schedule of duties

Each device runs the kernel once. It signals the barrier semaphore of every neighbour and waits on its own for as
many units as it has neighbours; then it copies the faces of its block to its neighbours, waits for theirs, and
computes its block of the Laplacian.

The copies are numbered by the direction they travel in: copy `j` leaves the send buffer `srcM j` and lands in the
halo buffer `dstM j` of the device in direction `j`, on that device's receive semaphore `j`.

There are thirteen semaphores per device that the protocol uses, each with a single round of duties:

* the barrier: one unit from each neighbour, which hands over that neighbour's halo buffer for the copy to come;
* send semaphore `j`: the copy's credit, which gives the send buffer back;
* receive semaphore `j`: the copy's credit, which gives the halo buffer back with the neighbour's face in it.

A device on the rim of the grid has no duties on the semaphores of the copies it does not make.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Mesh
public import Idealize.ShloMosaic.Lib.Pipeline.Launch
public import Idealize.ShloMosaic.Lib.Pipeline.Kit
public import Idealize.ShloMosaic.Lib.Tactic

@[expose] public section

noncomputable section

namespace Cert.KernelIdeal.Halo

open Cert.KernelIdeal Cert.KernelIdeal.Gen Cert.Halo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the pipeline's own, and the exchange's with duties named by directions -/

abbrev UB : Type := URounds (GSem nD τ sig) (Fin 6)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The state at launch: any contents, every semaphore counter zero, any generator registers. -/
def s₀ : MemSt nD τ sig (Elt F) := ⟨m, fun _ => 0, ρ⟩

/-! ## Buffers -/

abbrev xM : Memref sig .tc .vmem S16x16x16 .f32 := Memref.whole cc0_stg0_0
abbrev oM : Memref sig .tc .vmem S16x16x16 .f32 := Memref.whole cc0_stg1_0

/-- The extents, and the shape, of the face that copy `j` carries. -/
abbrev SZ : Fin 6 → Fin 3 → ℕ := fun
  | 0 => S1x16x16.size | 1 => S1x16x16.size | 2 => S16x1x16.size | 3 => S16x1x16.size | 4 => S16x16x1.size | 5 => S16x16x1.size
abbrev SH (j : Fin 6) : Shape := ⟨3, SZ j⟩

/-- Copy `j`'s source, the sender's send buffer, -/
abbrev srcM : (j : Fin 6) → Memref sig .tc .vmem (SH j) .f32 := fun
  | 0 => Memref.whole cc0_scratch6 | 1 => Memref.whole cc0_scratch7 | 2 => Memref.whole cc0_scratch8
  | 3 => Memref.whole cc0_scratch9 | 4 => Memref.whole cc0_scratch10 | 5 => Memref.whole cc0_scratch11

/-- and its destination, the receiver's halo buffer on the side the copy comes from. -/
abbrev dstM : (j : Fin 6) → Memref sig .tc .vmem (SH j) .f32 := fun
  | 0 => Memref.whole cc0_scratch1 | 1 => Memref.whole cc0_scratch0 | 2 => Memref.whole cc0_scratch3
  | 3 => Memref.whole cc0_scratch2 | 4 => Memref.whole cc0_scratch5 | 5 => Memref.whole cc0_scratch4

/-- Where in a block the face for copy `j` begins. -/
abbrev off : Fin 6 → Fin 3 → ℕ := fun
  | 0 => ![0, 0, 0] | 1 => ![15, 0, 0] | 2 => ![0, 0, 0] | 3 => ![0, 15, 0] | 4 => ![0, 0, 0] | 5 => ![0, 0, 15]

theorem face_inb : (j : Fin 6) → ∀ a : Fin 3, off j a + SZ j a ≤ S16x16x16.size a
  | 0 => inb_S16x16x16_S1x16x16_0_0_0 | 1 => inb_S16x16x16_S1x16x16_15_0_0 | 2 => inb_S16x16x16_S16x1x16_0_0_0
  | 3 => inb_S16x16x16_S16x1x16_0_15_0 | 4 => inb_S16x16x16_S16x16x1_0_0_0 | 5 => inb_S16x16x16_S16x16x1_0_0_15

theorem srcM_set (j : Fin 6) : (srcM j).view.set = Finset.univ := by fin_cases j <;> exact View.set_whole _
theorem dstM_set (j : Fin 6) : (dstM j).view.set = Finset.univ := by fin_cases j <;> exact View.set_whole _

/-- What a copy in direction `j` credits. -/
def N (j : Fin 6) : ℕ := (dstM j).view.dmaCredit
theorem N_pos (j : Fin 6) : 0 < N j := by fin_cases j <;> exact View.dmaCredit_pos _ (by decide)
theorem srcM_credit (j : Fin 6) : (srcM j).view.dmaCredit = N j := by fin_cases j <;> rfl

/-! ## Semaphores and cells -/

/-- The barrier semaphore; it belongs to no launch. -/
abbrev barS : Sem sig := (SemArray.scalar (sig.barrier 0 rfl) : Sems sig S_).sem
/-- Copy `j`'s send and receive semaphores. -/
abbrev sendQ (j : Fin 6) : DmaSem sig := ⟨2 + j.val, by have := j.isLt; show _ < 14; omega⟩
abbrev recvQ (j : Fin 6) : DmaSem sig := ⟨8 + j.val, by have := j.isLt; show _ < 14; omega⟩

abbrev barCell (c : Dev nD) : GSem nD τ sig := ((c : Thread nD τ), .reg barS)
abbrev sendCell (j : Fin 6) (c : Dev nD) : GSem nD τ sig := ((c : Thread nD τ), .dma (sendQ j))
abbrev recvCell (j : Fin 6) (c : Dev nD) : GSem nD τ sig := ((c : Thread nD τ), .dma (recvQ j))

/-- What a semaphore is for. -/
inductive Role where
  | bar | send (j : Fin 6) | recv (j : Fin 6) | other

def role : SemLoc sig → Role
  | .reg r => if r = barS then .bar else .other
  | .dma q => if h : 8 ≤ q.val then .recv ⟨q.val - 8, by have := q.isLt; change q.val < 14 at this; omega⟩
      else if h' : 2 ≤ q.val then .send ⟨q.val - 2, by omega⟩ else .other

theorem role_bar : role (.reg barS) = .bar := by unfold role; exact if_pos rfl
theorem role_send (j : Fin 6) : role (.dma (sendQ j)) = .send j := by fin_cases j <;> rfl
theorem role_recv (j : Fin 6) : role (.dma (recvQ j)) = .recv j := by fin_cases j <;> rfl

/-! ## Contents -/

/-- Device `c`'s block, as the kernel finds it staged. -/
def xstg (c : Dev nD) : (cc0_stg0_0 : Ref sig .tc).ty.Contents (Elt F) :=
  (win0_0.blk (0 : Fin 1)).view.read (Elt F) ((s₀ m ρ).mem ((c : Thread nD τ).loc main_arg0))

/-- The face of device `c`'s block that it sends in direction `j`. -/
def face (j : Fin 6) (c : Dev nD) : (SH j).Idx → Elt F .f32 := fun i =>
  xstg m ρ c ((Rect.unit (s := S16x16x16) (off j) (SZ j) (face_inb j)).emb i)

/-- Device `c` holds its send buffer `j`, reading `X`; its halo buffer for copy `j`, reading `X`. -/
def srcAt (j : Fin 6) (c : Dev nD) (X : (SH j).Idx → Elt F .f32) : sProp 𝕄 := owns (c : Thread nD τ) (srcM j) fullShare X
def dstAt (j : Fin 6) (c : Dev nD) (X : (SH j).Idx → Elt F .f32) : sProp 𝕄 := owns (c : Thread nD τ) (dstM j) fullShare X

omit [FloatOps F] in
instance srcAt_storable (j : Fin 6) (c : Dev nD) (X) : BI.Storable (upEmb : UEmb _ 𝕄) (srcAt (F := F) j c X) := by unfold srcAt; infer_instance
omit [FloatOps F] in
instance dstAt_storable (j : Fin 6) (c : Dev nD) (X) : BI.Storable (upEmb : UEmb _ 𝕄) (dstAt (F := F) j c X) := by unfold dstAt; infer_instance

/-! ## The schedule -/

/-- The directions device `c` has neighbours in. -/
def dirs (c : Dev nD) : Finset (Fin 6) := Finset.univ.filter fun j => has j c = true

def dutiesOf (c : Dev nD) : Role → Finset (Fin 6)
  | .bar => dirs c
  | .send j => if has j c then {0} else ∅
  | .recv j => if has (opp j) c then {0} else ∅
  | .other => ∅

def amountOf : Role → ℕ
  | .send j => N j
  | .recv j => N j
  | _ => 1

def payOf (c : Dev nD) (d : Fin 6) : Role → sProp 𝕄
  | .bar => iprop(∃ X, dstAt d (nb d c) X)
  | .send j => srcAt j c (face m ρ j c)
  | .recv j => dstAt j c (face m ρ j (nb (opp j) c))
  | .other => iprop(emp)

/-- The schedule: one round, the duties of each cell those of its semaphore's role on its device. -/
def rd : Rounds.Schedule (GSem nD τ sig) (Fin 6) 𝕄 where
  duties g r := if r = 0 ∧ g.1.2 = .tc then dutiesOf g.1.1 (role g.2) else ∅
  unitless _ := False
  amount g _ _ := amountOf (role g.2)
  payload g _ d := payOf m ρ g.1.1 d (role g.2)
  amount_pos g _ _ _ := by
    cases h : role g.2 with
    | bar => exact Nat.one_pos
    | other => exact Nat.one_pos
    | send j => exact N_pos j
    | recv j => exact N_pos j

omit [FloatOps F] in
instance payOf_storable (c : Dev nD) (d : Fin 6) (r : Role) : BI.Storable (upEmb : UEmb _ 𝕄) (payOf (F := F) m ρ c d r) := by
  cases r <;> unfold payOf <;> infer_instance

omit [FloatOps F] in
instance rd_payload_storable (g : GSem nD τ sig) (r : ℕ) (d : Fin 6) :
    BI.Storable (upEmb : UEmb _ 𝕄) ((rd (F := F) m ρ).payload g r d) := by
  show BI.Storable upEmb (payOf m ρ g.1.1 d (role g.2)); infer_instance

section Sched
variable (c : Dev nD) (j : Fin 6)

omit [FloatOps F] in
theorem duties_bar : (rd (F := F) m ρ).duties (barCell c) 0 = dirs c := by
  dsimp only [rd]; rw [if_pos ⟨rfl, rfl⟩, role_bar]; rfl
omit [FloatOps F] in
theorem duties_send (h : has j c = true) : (rd (F := F) m ρ).duties (sendCell j c) 0 = {0} := by
  dsimp only [rd]; rw [if_pos ⟨rfl, rfl⟩, role_send]; exact if_pos h
omit [FloatOps F] in
theorem duties_recv (h : has (opp j) c = true) : (rd (F := F) m ρ).duties (recvCell j c) 0 = {0} := by
  dsimp only [rd]; rw [if_pos ⟨rfl, rfl⟩, role_recv]; exact if_pos h
omit [FloatOps F] in
/-- No duties after round 0; -/
theorem duties_later (g : GSem nD τ sig) : ∀ r, 1 ≤ r → (rd (F := F) m ρ).duties g r = ∅ :=
  fun r hr => by dsimp only [rd]; exact if_neg fun h => by omega
omit [FloatOps F] in
/-- none at all on the semaphores of copies that are not made. -/
theorem duties_send_none (h : has j c = false) : ∀ r, 0 ≤ r → (rd (F := F) m ρ).duties (sendCell j c) r = ∅ := fun r _ => by
  dsimp only [rd]; split
  · rw [role_send]; exact if_neg (by rw [h]; decide)
  · rfl
omit [FloatOps F] in
theorem duties_recv_none (h : has (opp j) c = false) : ∀ r, 0 ≤ r → (rd (F := F) m ρ).duties (recvCell j c) r = ∅ := fun r _ => by
  dsimp only [rd]; split
  · rw [role_recv]; exact if_neg (by rw [h]; decide)
  · rfl

omit [FloatOps F] in
theorem amount_bar (d : Fin 6) : (rd (F := F) m ρ).amount (barCell c) 0 d = 1 := by dsimp only [rd]; rw [role_bar]; rfl
omit [FloatOps F] in
theorem amount_send (d : Fin 6) : (rd (F := F) m ρ).amount (sendCell j c) 0 d = N j := by dsimp only [rd]; rw [role_send]; rfl
omit [FloatOps F] in
theorem amount_recv (d : Fin 6) : (rd (F := F) m ρ).amount (recvCell j c) 0 d = N j := by dsimp only [rd]; rw [role_recv]; rfl

omit [FloatOps F] in
theorem payload_bar (d : Fin 6) : (rd (F := F) m ρ).payload (barCell c) 0 d = iprop(∃ X, dstAt d (nb d c) X) := by
  dsimp only [rd]; rw [role_bar]; rfl
omit [FloatOps F] in
theorem payload_send (d : Fin 6) : (rd (F := F) m ρ).payload (sendCell j c) 0 d = srcAt j c (face m ρ j c) := by
  dsimp only [rd]; rw [role_send]; rfl
omit [FloatOps F] in
theorem payload_recv (d : Fin 6) : (rd (F := F) m ρ).payload (recvCell j c) 0 d = dstAt j c (face m ρ j (nb (opp j) c)) := by
  dsimp only [rd]; rw [role_recv]; rfl

omit [FloatOps F] in
theorem expect_bar : (rd (F := F) m ρ).expect (barCell c) 0 = (dirs c).card := by
  unfold Schedule.expect Schedule.amountOf
  rw [duties_bar, Finset.sum_congr rfl fun d _ => amount_bar m ρ c d, Finset.sum_const, smul_eq_mul, Nat.mul_one]
omit [FloatOps F] in
theorem expect_send (h : has j c = true) : (rd (F := F) m ρ).expect (sendCell j c) 0 = N j := by
  unfold Schedule.expect Schedule.amountOf; rw [duties_send m ρ c j h, Finset.sum_singleton, amount_send]
omit [FloatOps F] in
theorem expect_recv (h : has (opp j) c = true) : (rd (F := F) m ρ).expect (recvCell j c) 0 = N j := by
  unfold Schedule.expect Schedule.amountOf; rw [duties_recv m ρ c j h, Finset.sum_singleton, amount_recv]

/-- What the barrier hands device `c` for direction `j`: the neighbour's halo buffer, if there is a neighbour. -/
def given (j : Fin 6) (c : Dev nD) : sProp 𝕄 := if has j c = true then iprop(∃ X, dstAt j (nb j c) X) else iprop(emp)

omit [FloatOps F] in
theorem bigSep_six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

omit [FloatOps F] in
/-- The barrier's round: every neighbour's halo buffer. -/
theorem rest_bar : bigSep ((rd (F := F) m ρ).duties (barCell c) 0 \ ∅) (fun d => (rd (F := F) m ρ).payload (barCell c) 0 d)
    = iprop(given 0 c ∗ given 1 c ∗ given 2 c ∗ given 3 c ∗ given 4 c ∗ given 5 c) := by
  rw [Finset.sdiff_empty, duties_bar, dirs, bigSep_filter, bigSep_six]
  simp only [payload_bar]; rfl
omit [FloatOps F] in
theorem rest_send (h : has j c = true) : bigSep ((rd (F := F) m ρ).duties (sendCell j c) 0 \ ∅) (fun d => (rd (F := F) m ρ).payload (sendCell j c) 0 d)
    = srcAt j c (face m ρ j c) := by
  rw [Finset.sdiff_empty, duties_send m ρ c j h, bigSep_singleton, payload_send]
omit [FloatOps F] in
theorem rest_recv (h : has (opp j) c = true) : bigSep ((rd (F := F) m ρ).duties (recvCell j c) 0 \ ∅) (fun d => (rd (F := F) m ρ).payload (recvCell j c) 0 d)
    = dstAt j c (face m ρ j (nb (opp j) c)) := by
  rw [Finset.sdiff_empty, duties_recv m ρ c j h, bigSep_singleton, payload_recv]

end Sched

/-! ## What each device owes at launch; the levels -/

/-- What device `c` owes for direction `j`: the copy's credit on the neighbour's receive semaphore, a unit on its barrier. -/
def oR (j : Fin 6) (c : Dev nD) : CellTallies nD τ sig Unit := tallyAt (recvCell j (nb j c)) () (if has j c = true then N j else 0)
def oB (j : Fin 6) (c : Dev nD) : CellTallies nD τ sig Unit := tallyAt (barCell (nb j c)) () (if has j c = true then 1 else 0)
/-- All of its copies; all of its copies and signals. -/
def O₁ (c : Dev nD) : CellTallies nD τ sig Unit := ∑ j, oR j c
def O₀ (c : Dev nD) : CellTallies nD τ sig Unit := ∑ j, oR j c + ∑ j, oB j c

def L (g : GSem nD τ sig) : Finset Unit := if g.1.2 = .tc then {()} else ∅
/-- Barriers lie at level 1, receive semaphores at 2, all others at 0. -/
def lv (g : GSem nD τ sig) (_ : Unit) : ℕ := match role g.2 with
  | .bar => 1
  | .recv _ => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [role_bar]
theorem lv_recv (j : Fin 6) (c : Dev nD) : lv (recvCell j c) () = 2 := by unfold lv; rw [role_recv]

theorem tally_pos {g g' : GSem nD τ sig} {u u' : Unit} {k : ℕ} (h : 0 < (tallyAt g u k : CellTallies nD τ sig Unit) g' u') : g' = g := by
  by_contra hn
  rw [tallyAt_ne_cell hn] at h
  exact Nat.lt_irrefl 0 h

theorem sum_at {I : Type} (s : Finset I) (T : I → CellTallies nD τ sig Unit) (g : GSem nD τ sig) (u : Unit) : (∑ i ∈ s, T i) g u = ∑ i ∈ s, T i g u := by
  rw [Finset.sum_apply, Finsupp.finset_sum_apply]

theorem sum_pos {T : Fin 6 → CellTallies nD τ sig Unit} {g : GSem nD τ sig} {u : Unit} (h : 0 < (∑ j, T j) g u) : ∃ j, 0 < T j g u := by
  rw [sum_at] at h
  by_contra hn
  rw [Finset.sum_eq_zero fun j _ => Nat.eq_zero_of_not_pos fun hp => hn ⟨j, hp⟩] at h
  exact Nat.lt_irrefl 0 h

theorem O₁_pos {c : Dev nD} {g : GSem nD τ sig} {u : Unit} (h : 0 < O₁ c g u) : ∃ j d, g = recvCell j d :=
  (sum_pos h).elim fun j hj => ⟨j, _, tally_pos hj⟩

theorem O₀_pos {c : Dev nD} {g : GSem nD τ sig} {u : Unit} (h : 0 < O₀ c g u) : (∃ j d, g = recvCell j d) ∨ ∃ d, g = barCell d := by
  unfold O₀ at h
  rw [Pi.add_apply, Finsupp.add_apply] at h
  rcases Nat.eq_zero_or_pos ((∑ j, oR j c) g u) with h0 | hp
  · rw [h0, Nat.zero_add] at h
    exact .inr ((sum_pos h).elim fun j hj => ⟨_, tally_pos hj⟩)
  · exact .inl (O₁_pos hp)

omit [FloatOps F] in
/-- A device may wait on a semaphore of level 0 whatever it owes of this protocol. -/
theorem mayWait_low (c : Dev nD) (sm : SemLoc sig) (hq : lv ((c : Thread nD τ), sm) () = 0) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, d, rfl⟩ | ⟨d, rfl⟩ <;> exact Finset.mem_singleton_self _)
      (fun p hp => by rw [Finset.mem_singleton.mp hp]; exact hq.le)
      (fun g u hg => by
        rcases O₀_pos hg with ⟨j, d, rfl⟩ | ⟨d, rfl⟩
        · rw [lv_recv]; decide
        · rw [lv_bar]; decide)
  · rw [MayWait_zero]; iintro -; iempintro

omit [FloatOps F] in
/-- At its barrier a device owes copies only. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by obtain ⟨j, d, rfl⟩ := O₁_pos hg; exact Finset.mem_singleton_self _)
    (fun p hp => by rw [Finset.mem_singleton.mp hp]; exact (lv_bar c).le)
    (fun g u hg => by obtain ⟨j, d, rfl⟩ := O₁_pos hg; rw [lv_recv]; decide)

end Cert.KernelIdeal.Halo

end
-- ==== Proof.KernelIdeal.Program.lean ====
/-
# The kernel's text as a sequence of guarded blocks

Whether a device signals, sends or waits in a direction depends on its place in the grid. The second and third part
of the kernel body are restated here as sequences of blocks, each run under one condition: the copies `sendProg j`
and the waits `waitS j`, `waitR j`.
-/
module

public import proofs.«01_k».proof.Proof.KernelIdeal.Protocol

@[expose] public section

noncomputable section

namespace Cert.KernelIdeal.Halo

open Cert.KernelIdeal Cert.KernelIdeal.Gen Cert.Halo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The kernel's programs. -/
abbrev KProg (F : FTy → Type) (α : Type) : Type _ := Prog (TpuEff nD τ sig (Elt F) Λ₀ .tc) α

/-- Run `A` if `p` holds. -/
def guard (p : Prop) [Decidable p] (A : p → KProg F PUnit) : KProg F PUnit := if h : p then A h else pure ⟨⟩

omit [FloatOps F] in
theorem guard_bind {α : Type} (p : Prop) [Decidable p] (A : p → KProg F PUnit) (k : PUnit → KProg F α) :
    (guard p A >>= k) = if h : p then A h >>= k else k ⟨⟩ := by
  unfold guard; split <;> rfl

theorem SH_pos (j : Fin 6) : 0 < (SH j).numel := by fin_cases j <;> decide
theorem zero_inb (j : Fin 6) : ∀ a : Fin 3, (![0, 0, 0] : Fin 3 → ℕ) a + SZ j a ≤ SZ j a := by fin_cases j <;> decide
theorem srcM_whole (j : Fin 6) : (srcM j).IsWhole := by fin_cases j <;> exact Memref.isWhole_whole _
theorem dstM_whole (j : Fin 6) : (dstM j).IsWhole := by fin_cases j <;> exact Memref.isWhole_whole _
theorem dstM_tc (j : Fin 6) : (dstM j).view.ref.isScScratch = false := by fin_cases j <;> rfl

/-- The face for copy `j` within a block; the whole of the buffer for copy `j`. -/
abbrev faceR (j : Fin 6) : Rect S16x16x16 := Rect.unit (s := S16x16x16) (off j) (SZ j) (face_inb j)
abbrev fullR (j : Fin 6) : Rect (SH j) := Rect.unit (s := SH j) ![0, 0, 0] (SZ j) (zero_inb j)

/-- What the kernel stores of the face it loaded (the face itself: `payS_eq`). -/
def payS : (j : Fin 6) → Vec F (SH j) .f32 → Vec F (SH j) .f32
  | 0 => k0_pay2 | 1 => k0_pay3 | 2 => k0_pay4 | 3 => k0_pay5 | 4 => k0_pay6 | 5 => k0_pay7

/-- Copy `j` to device `n`: load the face, store it to the send buffer, start the transfer. -/
def sendProg (j : Fin 6) (n : Dev nD) : KProg F PUnit := do
  let v ← Prog.lift (.load xM (faceR j).toLoadRect (View.loadsAt_vmem (SH_pos j)))
  let _ ← Prog.lift (.load (srcM j) (fullR j).toLoadRect (View.loadsAt_vmem (SH_pos j)))
  Prog.lift (.store (srcM j) (fullR j) (payS j v) Finset.univ (View.stores_vmem_bits_univ (SH_pos j) rfl) (.inl rfl))
  Prog.lift (.enqueueDma (srcM j) (.remote (Dev.tc n) (dstM j) (.dma (sendQ j)) (dstM_tc j)) (.dma (recvQ j))
    (srcM_whole j).wordExact (dstM_whole j).wordExact ⟨⟨rfl, Or.inl rfl⟩, trivial⟩)

/-- Wait for copy `j` to have left; to have arrived. -/
def waitS (j : Fin 6) : KProg F PUnit :=
  Prog.lift (.waitDma2 (sendQ j) (dstM j) (srcM j) (dstM_whole j).wordExact (srcM_whole j).wordExact)
def waitR (j : Fin 6) : KProg F PUnit :=
  Prog.lift (.waitDma2 (recvQ j) (srcM j) (dstM j) (srcM_whole j).wordExact (dstM_whole j).wordExact)

abbrev blkR : Rect S16x16x16 := Rect.unit (s := S16x16x16) ![0, 0, 0] S16x16x16.size inb_S16x16x16_S16x16x16_0_0_0

/-- Device `c`'s signals. -/
def signals (c : Dev nD) : KProg F PUnit := do
  semSignalWord (⟨k0_dev1 c, k0_dev1_lt c⟩ : Dev nD) barS 1#32
  semSignalWord (⟨k0_dev2 c, k0_dev2_lt c⟩ : Dev nD) barS 1#32
  guard (k0_cond1 c = 1#1) fun h => semSignalWord (⟨k0_dev3 c, k0_dev3_lt c h⟩ : Dev nD) barS 1#32

/-- Device `c`'s last signal, its barrier, its copies. -/
def sends (c : Dev nD) : KProg F PUnit := do
  guard (k0_cond2 c = 1#1) fun h => semSignalWord (⟨k0_dev4 c, k0_dev4_lt c h⟩ : Dev nD) barS 1#32
  semWaitWord barS (k0_amt1 c)
  guard (k0_cond3 c = 1#1) fun h => sendProg 0 ⟨k0_dev5 c, k0_dev5_lt c h⟩
  guard (k0_cond4 c = 1#1) fun h => sendProg 1 ⟨k0_dev6 c, k0_dev6_lt c h⟩
  guard (k0_cond5 c = 1#1) fun h => sendProg 2 ⟨k0_dev7 c, k0_dev7_lt c h⟩
  guard (k0_cond6 c = 1#1) fun h => sendProg 3 ⟨k0_dev8 c, k0_dev8_lt c h⟩
  guard (k0_cond7 c = 1#1) fun h => sendProg 4 ⟨k0_dev9 c, k0_dev9_lt c h⟩
  guard (k0_cond8 c = 1#1) fun h => sendProg 5 ⟨k0_dev10 c, k0_dev10_lt c h⟩

/-- The kernel's tests of a coordinate word. -/
abbrev isW (v : BitVec 32) (k : BitVec 32) : BitVec 1 := Scalar.cmpi .ne (Scalar.extui (Scalar.cmpi .eq v k) : BitVec 32) 0#32
abbrev posW (v : BitVec 32) : BitVec 1 := Scalar.cmpi .ne (Scalar.extui (Scalar.cmpi .sgt v 0#32) : BitVec 32) 0#32
abbrev ltW (v : BitVec 32) : BitVec 1 := Scalar.cmpi .ne (Scalar.extui (Scalar.cmpi .slt v 3#32) : BitVec 32) 0#32

/-- The waits, by the coordinate words `x`, `y`, `z`. -/
def waits (x y z : BitVec 32) : KProg F PUnit := do
  guard (isW x 0#32 = 1#1) fun _ => waitR 0
  guard (isW x 1#32 = 1#1) fun _ => do waitS 0; waitR 1
  guard (isW x 0#32 = 1#1) fun _ => waitS 1
  guard (isW y 0#32 = 1#1) fun _ => waitR 2
  guard (isW y 1#32 = 1#1) fun _ => do waitS 2; waitR 3
  guard (isW y 0#32 = 1#1) fun _ => waitS 3
  guard (posW z = 1#1) fun _ => do waitS 4; waitR 5
  guard (ltW z = 1#1) fun _ => do waitS 5; waitR 4

/-- The coordinate words. -/
abbrev xW (c : Dev nD) : BitVec 32 := Scalar.remsi (Scalar.divsi (Dev.word c) 8#32) 2#32
abbrev yW (c : Dev nD) : BitVec 32 := Scalar.remsi (Scalar.divsi (Dev.word c) 4#32) 2#32
abbrev zW (c : Dev nD) : BitVec 32 := Scalar.remsi (Scalar.divsi (Dev.word c) 1#32) 4#32

/-- The whole kernel on device `c`, given by the blocks above. -/
def prog (c : Dev nD) : KProg F PUnit := do
  signals c
  sends c
  let u ← Prog.lift (.load xM blkR.toLoadRect (View.loadsAt_vmem h_S16x16x16))
  waits (xW c) (yW c) (zW c)
  let xl ← Prog.lift (.load (dstM 1) (fullR 1).toLoadRect (View.loadsAt_vmem (SH_pos 1)))
  let xh ← Prog.lift (.load (dstM 0) (fullR 0).toLoadRect (View.loadsAt_vmem (SH_pos 0)))
  let yl ← Prog.lift (.load (dstM 3) (fullR 3).toLoadRect (View.loadsAt_vmem (SH_pos 3)))
  let yh ← Prog.lift (.load (dstM 2) (fullR 2).toLoadRect (View.loadsAt_vmem (SH_pos 2)))
  let zl ← Prog.lift (.load (dstM 5) (fullR 5).toLoadRect (View.loadsAt_vmem (SH_pos 5)))
  let zh ← Prog.lift (.load (dstM 4) (fullR 4).toLoadRect (View.loadsAt_vmem (SH_pos 4)))
  let _ ← Prog.lift (.load oM blkR.toLoadRect (View.loadsAt_vmem h_S16x16x16))
  Prog.lift (.store oM blkR
    (k0_pay1 (k0_pay11 (k0_pay8 u) (k0_pay9 u) (k0_pay10 (k0_pay8 u) xl xh) yl yh zl zh) (k0_pay12 (zW c)) (k0_pay13 (xW c) (yW c)) (k0_pay14 (zW c)))
    Finset.univ (View.stores_vmem_bits_univ h_S16x16x16 rfl) (.inl rfl))

/-- The kernel body at the launch's buffers. -/
abbrev body : KProg F PUnit :=
  cc0_body (Memref.whole cc0_stg0_0) (Memref.isWhole_whole _) (Memref.whole cc0_stg1_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    (Memref.whole cc0_scratch8) (Memref.isWhole_whole _) (Memref.whole cc0_scratch9) (Memref.isWhole_whole _)
    (Memref.whole cc0_scratch10) (Memref.isWhole_whole _) (Memref.whole cc0_scratch11) (Memref.isWhole_whole _) cc0_scratch12 cc0_scratch13

omit [FloatOps F] in
/-- A test whose two branches share their continuation is a guarded block, then the continuation. -/
theorem guard_seq {α : Type} {p : Prop} [Decidable p] {T : p → KProg F α} {E : ¬ p → KProg F α} {X : KProg F α}
    {A : p → KProg F PUnit} {k : PUnit → KProg F α} (hE : ∀ h, E h = X) (hT : ∀ h, T h = (A h >>= fun _ => X)) (hX : X = k ⟨⟩) :
    dite p T E = (guard p A >>= k) := by
  rw [guard_bind, ← hX, ← show (fun _ : PUnit => X) = k from funext fun _ => hX]
  congr 1
  · exact funext hT
  · exact funext hE

omit [FloatOps F] in
theorem op_congr {α β : Type} (A : KProg F β) {k k' : β → KProg F α} (h : ∀ b, k b = k' b) : (A >>= k) = (A >>= k') := by
  rw [funext h]

set_option maxHeartbeats 1000000 in
theorem part3_eq (x y z : BitVec 32) (w9 w10 w11 w12 : BitVec 32) (u : FVec F S16x16x16 .f32) :
    k0_part3 (Memref.whole cc0_stg0_0) (Memref.isWhole_whole _) (Memref.whole cc0_stg1_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    (Memref.whole cc0_scratch8) (Memref.isWhole_whole _) (Memref.whole cc0_scratch9) (Memref.isWhole_whole _)
    (Memref.whole cc0_scratch10) (Memref.isWhole_whole _) (Memref.whole cc0_scratch11) (Memref.isWhole_whole _) cc0_scratch12 cc0_scratch13
      x y z w9 w10 w11 w12 u
    = (waits x y z >>= fun _ => Prog.lift (.load (dstM 1) (fullR 1).toLoadRect (View.loadsAt_vmem (SH_pos 1))) >>= fun xl =>
        Prog.lift (.load (dstM 0) (fullR 0).toLoadRect (View.loadsAt_vmem (SH_pos 0))) >>= fun xh => pure (k0_pay10 u xl xh)) := by
  rw [k0_part3_eq_skeleton]; unfold k0_part3_skel waits
  simp only [bind_assoc]
  iterate 8 refine guard_seq (fun _ => rfl) (fun _ => rfl) ?_
  rfl

theorem part1_eq :
    k0_part1 (F := F) (Memref.whole cc0_stg0_0) (Memref.isWhole_whole _) (Memref.whole cc0_stg1_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    (Memref.whole cc0_scratch8) (Memref.isWhole_whole _) (Memref.whole cc0_scratch9) (Memref.isWhole_whole _)
    (Memref.whole cc0_scratch10) (Memref.isWhole_whole _) (Memref.whole cc0_scratch11) (Memref.isWhole_whole _) cc0_scratch12 cc0_scratch13
    = (Prog.lift .deviceId >>= fun c : Dev nD => signals c >>= fun _ => pure ⟨c, xW c, yW c, zW c, Scalar.subi 1#32 (xW c),
        Scalar.subi 1#32 (yW c), Scalar.addi (zW c) 1#32, Scalar.subi (zW c) 1#32, SemArray.scalar barrier0⟩) := by
  rw [k0_part1_eq_skeleton]; unfold k0_part1_skel signals
  simp only [bind_assoc]
  refine op_congr _ fun c => op_congr _ fun _ => op_congr _ fun _ => ?_
  refine guard_seq (fun _ => rfl) (fun _ => rfl) ?_
  rfl

theorem part2_eq (c : Dev nD) (x y z : BitVec 32) (w9 w10 w11 w12 : BitVec 32) :
    k0_part2 (F := F) (Memref.whole cc0_stg0_0) (Memref.isWhole_whole _) (Memref.whole cc0_stg1_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    (Memref.whole cc0_scratch8) (Memref.isWhole_whole _) (Memref.whole cc0_scratch9) (Memref.isWhole_whole _)
    (Memref.whole cc0_scratch10) (Memref.isWhole_whole _) (Memref.whole cc0_scratch11) (Memref.isWhole_whole _) cc0_scratch12 cc0_scratch13
      c x y z w9 w10 w11 w12 (SemArray.scalar barrier0)
    = (sends c >>= fun _ => Prog.lift (.load xM blkR.toLoadRect (View.loadsAt_vmem h_S16x16x16)) >>= fun u =>
        pure ⟨k0_pay8 u, k0_pay9 u⟩) := by
  rw [k0_part2_eq_skeleton]; unfold k0_part2_skel sends
  simp only [bind_assoc]
  refine guard_seq (fun _ => rfl) (fun _ => rfl) ?_
  refine op_congr _ fun _ => ?_
  iterate 6 refine guard_seq (fun _ => rfl) (fun _ => rfl) ?_
  rfl

/-- The body is: read the device's own number, then that device's program. -/
theorem body_eq : body (F := F) = Prog.lift .deviceId >>= fun c => prog c := by
  unfold body
  simp only [cc0_body_eq_skeleton]; unfold cc0_body_skel
  rw [part1_eq]; unfold prog
  simp only [bind_assoc, pure_bind, part2_eq, part3_eq, k0_part4_eq_skeleton]
  unfold k0_part4_skel
  simp only [bind_assoc, pure_bind]
  rfl

/-! ## What the conditions, the device numbers and the barrier's amount are -/

section Words
variable (c : Dev nD)

theorem dev1_nb : (⟨k0_dev1 c, k0_dev1_lt c⟩ : Dev nD) = nb 0 c := by revert c; decide
theorem dev2_nb : (⟨k0_dev2 c, k0_dev2_lt c⟩ : Dev nD) = nb 2 c := by revert c; decide
theorem cond1_has : (k0_cond1 c = 1#1) = (has 4 c = true) := by revert c; simp only [eq_iff_iff]; decide
theorem cond2_has : (k0_cond2 c = 1#1) = (has 5 c = true) := by revert c; simp only [eq_iff_iff]; decide
theorem cond3_has : (k0_cond3 c = 1#1) = (has 0 c = true) := by revert c; simp only [eq_iff_iff]; decide
theorem cond4_has : (k0_cond4 c = 1#1) = (has 1 c = true) := by revert c; simp only [eq_iff_iff]; decide
theorem cond5_has : (k0_cond5 c = 1#1) = (has 2 c = true) := by revert c; simp only [eq_iff_iff]; decide
theorem cond6_has : (k0_cond6 c = 1#1) = (has 3 c = true) := by revert c; simp only [eq_iff_iff]; decide
theorem cond7_has : (k0_cond7 c = 1#1) = (has 4 c = true) := by revert c; simp only [eq_iff_iff]; decide
theorem cond8_has : (k0_cond8 c = 1#1) = (has 5 c = true) := by revert c; simp only [eq_iff_iff]; decide
theorem dev3_nb (h : k0_cond1 c = 1#1) : (⟨k0_dev3 c, k0_dev3_lt c h⟩ : Dev nD) = nb 4 c := by revert c; decide
theorem dev4_nb (h : k0_cond2 c = 1#1) : (⟨k0_dev4 c, k0_dev4_lt c h⟩ : Dev nD) = nb 5 c := by revert c; decide
theorem dev5_nb (h : k0_cond3 c = 1#1) : (⟨k0_dev5 c, k0_dev5_lt c h⟩ : Dev nD) = nb 0 c := by revert c; decide
theorem dev6_nb (h : k0_cond4 c = 1#1) : (⟨k0_dev6 c, k0_dev6_lt c h⟩ : Dev nD) = nb 1 c := by revert c; decide
theorem dev7_nb (h : k0_cond5 c = 1#1) : (⟨k0_dev7 c, k0_dev7_lt c h⟩ : Dev nD) = nb 2 c := by revert c; decide
theorem dev8_nb (h : k0_cond6 c = 1#1) : (⟨k0_dev8 c, k0_dev8_lt c h⟩ : Dev nD) = nb 3 c := by revert c; decide
theorem dev9_nb (h : k0_cond7 c = 1#1) : (⟨k0_dev9 c, k0_dev9_lt c h⟩ : Dev nD) = nb 4 c := by revert c; decide
theorem dev10_nb (h : k0_cond8 c = 1#1) : (⟨k0_dev10 c, k0_dev10_lt c h⟩ : Dev nD) = nb 5 c := by revert c; decide
theorem x0_has : (isW (xW c) 0#32 = 1#1) = (has 1 c = true) := by revert c; simp only [eq_iff_iff]; decide
theorem x1_has : (isW (xW c) 1#32 = 1#1) = (has 0 c = true) := by revert c; simp only [eq_iff_iff]; decide
theorem y0_has : (isW (yW c) 0#32 = 1#1) = (has 3 c = true) := by revert c; simp only [eq_iff_iff]; decide
theorem y1_has : (isW (yW c) 1#32 = 1#1) = (has 2 c = true) := by revert c; simp only [eq_iff_iff]; decide
theorem zp_has : (posW (zW c) = 1#1) = (has 4 c = true) := by revert c; simp only [eq_iff_iff]; decide
theorem zl_has : (ltW (zW c) = 1#1) = (has 5 c = true) := by revert c; simp only [eq_iff_iff]; decide
/-- The barrier waits for one unit per neighbour. -/
theorem amt_card : (k0_amt1 c).toInt = ((dirs c).card : ℤ) := by revert c; decide
/-- Along `x`, and along `y`, a device has exactly one neighbour. -/
theorem has_x : has 1 c = !has 0 c := by revert c; decide
theorem has_y : has 3 c = !has 2 c := by revert c; decide

end Words

end Cert.KernelIdeal.Halo

end
-- ==== Proof.KernelIdeal.Steps.lean ====
/-
# The rules for the kernel's blocks

One rule per kind of block — a signal, the barrier, a copy, a wait —, each stated under the condition the block runs
under: the same resources, in the form that fits whether or not the device has the neighbour in question.
-/
module

public import proofs.«01_k».proof.Proof.KernelIdeal.Program
public import Idealize.ShloMosaic.Lib.Pipeline.Value

@[expose] public section

noncomputable section

namespace Cert.KernelIdeal.Halo

open Cert.KernelIdeal Cert.KernelIdeal.Gen Cert.Halo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The cells of a device, numbered -/

/-- A device's cells: its barrier, the send semaphore of each copy, the receive semaphore of each copy. -/
abbrev csem : Fin 13 → SemLoc sig := fun k =>
  if k.val = 0 then .reg barS else if h : k.val < 7 then .dma (sendQ ⟨k.val - 1, by omega⟩) else .dma (recvQ ⟨k.val - 7, by omega⟩)
abbrev kcell (ck : Dev nD × Fin 13) : GSem nD τ sig := ((ck.1 : Thread nD τ), csem ck.2)
/-- The number of a send semaphore, of a receive semaphore. -/
abbrev kS (j : Fin 6) : Fin 13 := ⟨1 + j.val, by omega⟩
abbrev kR (j : Fin 6) : Fin 13 := ⟨7 + j.val, by omega⟩

theorem csem_S (j : Fin 6) : csem (kS j) = .dma (sendQ j) := by fin_cases j <;> rfl
theorem csem_R (j : Fin 6) : csem (kR j) = .dma (recvQ j) := by fin_cases j <;> rfl

variable (K : Dev nD × Fin 13 → ℕ)

/-- What every device knows of the exchange: every cell follows the schedule, and its first round is open. -/
def records : sProp 𝕄 :=
  iprop((bigSep Finset.univ fun ck : Dev nD × Fin 13 => cellInv ER (rd m ρ) (K ck) (kcell ck))
    ∗ bigSep Finset.univ fun ck : Dev nD × Fin 13 => reached ER (kcell ck) 0)

instance records_persistent : BI.Persistent (records (F := F) m ρ K) := by unfold records; infer_instance

omit [FloatOps F] in
theorem inv_of (ck : Dev nD × Fin 13) (g : GSem nD τ sig) (hg : kcell ck = g) : records (F := F) m ρ K ⊢ cellInv ER (rd m ρ) (K ck) g := by
  subst hg; unfold records
  iintro ⟨HI, -⟩
  iapply (show (bigSep Finset.univ fun ck : Dev nD × Fin 13 => (cellInv ER (rd m ρ) (K ck) (kcell ck) : sProp 𝕄)) ⊢ cellInv ER (rd m ρ) (K ck) (kcell ck)
    from bigSep_elim (Finset.mem_univ ck))
  iexact HI

omit [FloatOps F] in
theorem reached_of (ck : Dev nD × Fin 13) (g : GSem nD τ sig) (hg : kcell ck = g) : records (F := F) m ρ K ⊢ reached ER g 0 := by
  subst hg; unfold records
  iintro ⟨-, HR⟩
  iapply (show (bigSep Finset.univ fun ck : Dev nD × Fin 13 => (reached ER (kcell ck) 0 : sProp 𝕄)) ⊢ reached ER (kcell ck) 0
    from bigSep_elim (Finset.mem_univ ck))
  iexact HR

theorem kcell_bar (c : Dev nD) : kcell (c, 0) = barCell c := rfl
theorem kcell_S (j : Fin 6) (c : Dev nD) : kcell (c, kS j) = sendCell j c := congrArg (Prod.mk _) (csem_S j)
theorem kcell_R (j : Fin 6) (c : Dev nD) : kcell (c, kR j) = recvCell j c := congrArg (Prod.mk _) (csem_R j)

/-! ## Resources by stage -/

/-- Device `c` owes `O`, whatever it has waited on. -/
def owing (c : Dev nD) (O : CellTallies nD τ sig Unit) : sProp 𝕄 := iprop(∃ W, owes (c : Thread nD τ) O W)

/-- Halo buffer `i` of device `c` with any contents; the same unless it has been handed to the neighbour that fills it. -/
def Land0 (i : Fin 6) (c : Dev nD) : sProp 𝕄 := iprop(∃ X, dstAt i c X)
def Land1 (i : Fin 6) (c : Dev nD) : sProp 𝕄 := if has (opp i) c = true then iprop(emp) else Land0 i c
/-- Halo buffer `i`, holding the neighbour's face if there is a neighbour. -/
def Got (i : Fin 6) (c : Dev nD) : sProp 𝕄 := iprop(∃ X, ⌜has (opp i) c = true → X = face m ρ i (nb (opp i) c)⌝ ∗ dstAt i c X)
/-- Send buffer `j` of device `c` with any contents; the same while a copy may be under way. -/
def Src0 (j : Fin 6) (c : Dev nD) : sProp 𝕄 := iprop(∃ X, srcAt j c X)
def Sent (j : Fin 6) (c : Dev nD) : sProp 𝕄 := if has j c = true then cred (tallyAt (sendCell j c) () (N j)) else Src0 j c
/-- The staged block. -/
def xPts (c : Dev nD) : sProp 𝕄 := iprop((c : Thread nD τ).loc cc0_stg0_0 ↦{fullShare} (xstg m ρ c))
/-- The token for the signal that hands over halo buffer `i`; the two for copy `j`. -/
def tokB (i : Fin 6) (c : Dev nD) : sProp 𝕄 := dutyTok ER (barCell (nb (opp i) c)) 0 i
def tokR (j : Fin 6) (c : Dev nD) : sProp 𝕄 := dutyTok ER (recvCell j (nb j c)) 0 0
def tokS (j : Fin 6) (c : Dev nD) : sProp 𝕄 := dutyTok ER (sendCell j c) 0 0
/-- A cell of device `c` with no rounds left. -/
def spent (g : GSem nD τ sig) : sProp 𝕄 := iprop(∃ R, ⌜∀ r, R ≤ r → (rd (F := F) m ρ).duties g r = ∅⌝ ∗ atPos ER g R ∅ 0)

/-- The judgement for a piece of device `c`'s program. -/
abbrev WP (c : Dev nD) {α : Type} (A : KProg F α) (Q : α → sProp 𝕄) : sProp 𝕄 := wp frame (wpE (defs₀ (F := F)) 𝒱₀ (c : Thread nD τ) none) Set.univ A Q

section Blocks
variable (c : Dev nD)

theorem wp_guard_true {p : Prop} [Decidable p] {A : p → KProg F PUnit} {Q : PUnit → sProp 𝕄} (h : p) : WP c (guard p A) Q = WP c (A h) Q := by
  unfold guard; rw [dif_pos h]

theorem wp_guard_false {p : Prop} [Decidable p] {A : p → KProg F PUnit} {Q : PUnit → sProp 𝕄} (h : ¬ p) : Q ⟨⟩ ⊢ WP c (guard p A) Q := by
  unfold guard; rw [dif_neg h]
  show _ ⊢ wp _ _ _ (Prog.ret PUnit.unit) _
  rw [wp_ret]; exact fupd_intro

/-! ### Signals -/

/-- A signal to the neighbour that fills halo buffer `i`, handing that buffer over. -/
theorem signal_wp (i : Fin 6) (h : has (opp i) c = true) (n : Dev nD) (hn : n = nb (opp i) c) (O : CellTallies nD τ sig Unit) (Q : PUnit → sProp 𝕄) :
    iprop(records m ρ K ∗ owing c (O + oB (opp i) c) ∗ tokB i c ∗ Land0 i c)
      ⊢ iprop(((owing c O ∗ Land1 i c) -∗ Q ⟨⟩) -∗ WP c (semSignalWord n barS 1#32) Q) := by
  subst hn
  unfold owing tokB semSignalWord Land1
  rw [if_pos h]
  iintro ⟨#Hrec, ⟨%W, HO⟩, Ht, HL⟩ Hk
  iapply (Rounds.wp_signal 𝒱₀ ER (rd m ρ) (c : Thread nD τ) none (dst := (nb (opp i) c : Thread nD τ)) (κ := K (nb (opp i) c, 0))
      (d := i) (by rw [duties_bar]; exact Finset.mem_filter.mpr ⟨Finset.mem_univ _, (has_nb' i c).trans h⟩)
      ((amount_bar m ρ _ _).trans (by decide)) () (O₀ := O + oB (opp i) c) O (by unfold oB; rw [if_pos h]; rfl))
    $$ [HO Ht HL]
  · isplitr; · iapply (inv_of m ρ K (nb (opp i) c, 0) _ rfl); iexact Hrec
    isplitl [HO]; · iexact HO
    isplitl [Ht]; · iexact Ht
    isplitl [HL]
    · rw [payload_bar, nb_opp']; unfold Land0; iexact HL
    · iapply (reached_of m ρ K (nb (opp i) c, 0) _ rfl); iexact Hrec
  iintro HO
  rw [wp_ret]; imodintro
  iapply Hk
  isplitl [HO]
  · iexists W; iexact HO
  · iempintro

/-- What is owed where there is no neighbour is nothing. -/
theorem oB_none (j : Fin 6) (h : ¬ has j c = true) : oB j c = 0 := by unfold oB; rw [if_neg h, tallyAt_zero]
theorem oR_none (j : Fin 6) (h : ¬ has j c = true) : oR j c = 0 := by unfold oR; rw [if_neg h, tallyAt_zero]

/-- A signal made only if there is the neighbour. -/
theorem signal_guard (i : Fin 6) (p : Prop) [Decidable p] (hp : p = (has (opp i) c = true)) (n : p → Dev nD) (hn : ∀ h, n h = nb (opp i) c)
    (O : CellTallies nD τ sig Unit) (Q : PUnit → sProp 𝕄) :
    iprop(records m ρ K ∗ owing c (O + oB (opp i) c) ∗ tokB i c ∗ Land0 i c)
      ⊢ iprop(((owing c O ∗ Land1 i c) -∗ Q ⟨⟩) -∗ WP c (guard p fun h => semSignalWord (n h) barS 1#32) Q) := by
  by_cases h : p
  · rw [wp_guard_true c h]
    exact signal_wp m ρ K c i (hp ▸ h) _ (hn h) O Q
  · have h' : ¬ has (opp i) c = true := hp ▸ h
    rw [oB_none c _ h', add_zero]
    iintro ⟨-, HO, -, HL⟩ Hk
    iapply (wp_guard_false c h)
    iapply Hk
    unfold Land1; rw [if_neg h']
    isplitl [HO] <;> iassumption

/-- The one signal along an axis with exactly one neighbour, which fills halo buffer `i` or else `i'`. -/
theorem signal_pair (i i' : Fin 6) (hi : has (opp i') c = !has (opp i) c) (n : Dev nD) (hn : n = nb (opp i) c) (hn' : n = nb (opp i') c)
    (O : CellTallies nD τ sig Unit) (Q : PUnit → sProp 𝕄) :
    iprop(records m ρ K ∗ owing c (O + oB (opp i) c + oB (opp i') c) ∗ (tokB i c ∗ Land0 i c) ∗ (tokB i' c ∗ Land0 i' c))
      ⊢ iprop(((owing c O ∗ Land1 i c ∗ Land1 i' c) -∗ Q ⟨⟩) -∗ WP c (semSignalWord n barS 1#32) Q) := by
  by_cases h : has (opp i) c = true
  · have h' : ¬ has (opp i') c = true := by rw [hi, h]; decide
    rw [oB_none c _ h', add_zero]
    iintro ⟨#Hrec, HO, ⟨Ht, HL⟩, -, HL'⟩ Hk
    iapply (signal_wp m ρ K c i h n hn O Q) $$ [HO Ht HL]
    · isplitr; · iexact Hrec
      isplitl [HO]; · iexact HO
      isplitl [Ht] <;> iassumption
    iintro ⟨HO, HL⟩
    iapply Hk
    isplitl [HO]; · iexact HO
    isplitl [HL]; · iexact HL
    unfold Land1; rw [if_neg h']; iexact HL'
  · have h' : has (opp i') c = true := by rw [hi, eq_false_of_ne_true h]; rfl
    rw [oB_none c _ h, add_zero]
    iintro ⟨#Hrec, HO, ⟨-, HL⟩, Ht', HL'⟩ Hk
    iapply (signal_wp m ρ K c i' h' n hn' O Q) $$ [HO Ht' HL']
    · isplitr; · iexact Hrec
      isplitl [HO]; · iexact HO
      isplitl [Ht'] <;> iassumption
    iintro ⟨HO, HL'⟩
    iapply Hk
    isplitl [HO]; · iexact HO
    isplitl [HL]
    · unfold Land1; rw [if_neg h]; iexact HL
    iexact HL'

/-! ### The barrier -/

/-- The barrier: a unit from every neighbour, and with each the halo buffer that neighbour wants filled. -/
theorem barrier_wp (Q : PUnit → sProp 𝕄) :
    iprop(records m ρ K ∗ levAts L lv ∗ cred (tallyAt (barCell c) () (dirs c).card) ∗ owing c (O₁ c) ∗ atPos ER (barCell c) 0 ∅ 0)
      ⊢ iprop(((owing c (O₁ c) ∗ spent m ρ (barCell c) ∗ given 0 c ∗ given 1 c ∗ given 2 c ∗ given 3 c ∗ given 4 c ∗ given 5 c) -∗ Q ⟨⟩)
          -∗ WP c (semWaitWord barS (k0_amt1 c)) Q) := by
  unfold owing semWaitWord
  rw [amt_card]
  iintro ⟨#Hrec, #Hlev, Hc, ⟨%W, HO⟩, Hat⟩ Hk
  iapply (Rounds.wp_wait_rest_token 𝒱₀ ER (rd m ρ) (c : Thread nD τ) none (κ := K (c, 0))
      (wpE_semWait_eq 𝒱₀ (c : Thread nD τ) none Set.univ) (Set.mem_univ _) () (O := O₁ c) (W := W) (R := 0) (m := 0) (T := ∅)
      (by rw [Nat.zero_add]; exact (expect_bar m ρ c).symm)) $$ [Hc HO Hat]
  · isplitr; · iapply (inv_of m ρ K (c, 0) _ rfl); iexact Hrec
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  rw [wp_ret]; imodintro
  iapply Hk
  isplitl [HO]
  · iexists _; iexact HO
  isplitl [Hat]
  · unfold spent; iexists _; isplitr
    · ipureintro; exact duties_later m ρ (barCell c)
    iexact Hat
  iexact Hp

/-! ### Waits for copies -/

/-- Device `c` waits for its copy `j` to have left: the send buffer is its own again. -/
theorem waitS_wp (j : Fin 6) (h : has j c = true) (Q : PUnit → sProp 𝕄) :
    iprop(records m ρ K ∗ Sent j c ∗ owing c 0 ∗ atPos ER (sendCell j c) 0 ∅ 0)
      ⊢ iprop(((owing c 0 ∗ Src0 j c ∗ spent m ρ (sendCell j c)) -∗ Q ⟨⟩) -∗ WP c (waitS j) Q) := by
  unfold owing Sent waitS Prog.lift
  rw [if_pos h]
  iintro ⟨#Hrec, Hc, ⟨%W, HO⟩, Hat⟩ Hk
  iapply (Rounds.wp_wait_rest_token 𝒱₀ ER (rd m ρ) (c : Thread nD τ) none (κ := K (c, kS j))
      (wpE_waitDma2_eq 𝒱₀ (c : Thread nD τ) none Set.univ) (Set.mem_univ _) () (O := 0) (W := W) (R := 0) (m := 0) (T := ∅)
      (by rw [Nat.zero_add, expect_send m ρ c j h]; exact srcM_credit j)) $$ [Hc HO Hat]
  · isplitr; · iapply (inv_of m ρ K (c, kS j) _ (kcell_S j c)); iexact Hrec
    isplitl [Hc]; · rw [srcM_credit]; iexact Hc
    isplitl [HO]; · iexact HO
    isplitr; · rw [MayWait_zero]; iempintro
    iexact Hat
  iintro ⟨HO, Hat, -, Hpay⟩
  ihave Hp := (Entails.of_eq (rest_send m ρ c j h)) $$ Hpay
  rw [wp_ret]; imodintro
  iapply Hk
  isplitl [HO]
  · iexists _; iexact HO
  isplitl [Hp]
  · unfold Src0; iexists _; iexact Hp
  unfold spent; iexists _; isplitr
  · ipureintro; exact duties_later m ρ (sendCell j c)
  iexact Hat

/-- Device `c` waits for copy `j` from its neighbour to have arrived: its halo buffer holds the neighbour's face. -/
theorem waitR_wp (j : Fin 6) (h : has (opp j) c = true) (Q : PUnit → sProp 𝕄) :
    iprop(records m ρ K ∗ cred (tallyAt (recvCell j c) () (if has (opp j) c = true then N j else 0)) ∗ Land1 j c ∗ owing c 0 ∗ atPos ER (recvCell j c) 0 ∅ 0)
      ⊢ iprop(((owing c 0 ∗ Got m ρ j c ∗ spent m ρ (recvCell j c)) -∗ Q ⟨⟩) -∗ WP c (waitR j) Q) := by
  unfold owing waitR Prog.lift
  rw [if_pos h]
  iintro ⟨#Hrec, Hc, -, ⟨%W, HO⟩, Hat⟩ Hk
  iapply (Rounds.wp_wait_rest_token 𝒱₀ ER (rd m ρ) (c : Thread nD τ) none (κ := K (c, kR j))
      (wpE_waitDma2_eq 𝒱₀ (c : Thread nD τ) none Set.univ) (Set.mem_univ _) () (O := 0) (W := W) (R := 0) (m := 0) (T := ∅)
      (by rw [Nat.zero_add, expect_recv m ρ c j h]; rfl)) $$ [Hc HO Hat]
  · isplitr; · iapply (inv_of m ρ K (c, kR j) _ (kcell_R j c)); iexact Hrec
    isplitl [Hc]; · iexact Hc
    isplitl [HO]; · iexact HO
    isplitr; · rw [MayWait_zero]; iempintro
    iexact Hat
  iintro ⟨HO, Hat, -, Hpay⟩
  ihave Hp := (Entails.of_eq (rest_recv m ρ c j h)) $$ Hpay
  rw [wp_ret]; imodintro
  iapply Hk
  isplitl [HO]
  · iexists _; iexact HO
  isplitl [Hp]
  · unfold Got; iexists _; isplitr
    · ipureintro; exact fun _ => rfl
    iexact Hp
  unfold spent; iexists _; isplitr
  · ipureintro; exact duties_later m ρ (recvCell j c)
  iexact Hat

omit [FloatOps F] in
/-- Where no copy is made the buffers and cells already are as after it. -/
theorem idleS (j : Fin 6) (h : ¬ has j c = true) : iprop(Sent j c ∗ atPos ER (sendCell j c) 0 ∅ 0) ⊢ iprop(Src0 (F := F) j c ∗ spent m ρ (sendCell j c)) := by
  unfold Sent spent; rw [if_neg h]
  iintro ⟨HS, Hat⟩
  isplitl [HS]; · iexact HS
  iexists _; isplitr
  · ipureintro; exact duties_send_none m ρ c j (eq_false_of_ne_true h)
  iexact Hat
omit [FloatOps F] in
theorem idleR (j : Fin 6) (h : ¬ has (opp j) c = true) :
    iprop(Land1 j c ∗ atPos ER (recvCell j c) 0 ∅ 0) ⊢ iprop(Got (F := F) m ρ j c ∗ spent m ρ (recvCell j c)) := by
  unfold Land1 Land0 Got spent; rw [if_neg h]
  iintro ⟨⟨%X, HL⟩, Hat⟩
  isplitl [HL]
  · iexists X; isplitr
    · ipureintro; exact fun h' => absurd h' h
    iexact HL
  iexists _; isplitr
  · ipureintro; exact duties_recv_none m ρ c j (eq_false_of_ne_true h)
  iexact Hat

theorem waitS_guard (j : Fin 6) (p : Prop) [Decidable p] (hp : p = (has j c = true)) (Q : PUnit → sProp 𝕄) :
    iprop(records m ρ K ∗ Sent j c ∗ owing c 0 ∗ atPos ER (sendCell j c) 0 ∅ 0)
      ⊢ iprop(((owing c 0 ∗ Src0 j c ∗ spent m ρ (sendCell j c)) -∗ Q ⟨⟩) -∗ WP c (guard p fun _ => waitS j) Q) := by
  by_cases h : p
  · rw [wp_guard_true c h]; exact waitS_wp m ρ K c j (hp ▸ h) Q
  · iintro ⟨-, HS, HO, Hat⟩ Hk
    iapply (wp_guard_false c h)
    iapply Hk
    isplitl [HO]; · iexact HO
    iapply (idleS m ρ c j (hp ▸ h)); isplitl [HS] <;> iassumption

theorem waitR_guard (j : Fin 6) (p : Prop) [Decidable p] (hp : p = (has (opp j) c = true)) (Q : PUnit → sProp 𝕄) :
    iprop(records m ρ K ∗ cred (tallyAt (recvCell j c) () (if has (opp j) c = true then N j else 0)) ∗ Land1 j c ∗ owing c 0 ∗ atPos ER (recvCell j c) 0 ∅ 0)
      ⊢ iprop(((owing c 0 ∗ Got m ρ j c ∗ spent m ρ (recvCell j c)) -∗ Q ⟨⟩) -∗ WP c (guard p fun _ => waitR j) Q) := by
  by_cases h : p
  · rw [wp_guard_true c h]; exact waitR_wp m ρ K c j (hp ▸ h) Q
  · iintro ⟨-, -, HL, HO, Hat⟩ Hk
    iapply (wp_guard_false c h)
    iapply Hk
    isplitl [HO]; · iexact HO
    iapply (idleR m ρ c j (hp ▸ h)); isplitl [HL] <;> iassumption

/-- Both waits towards one neighbour: for copy `j` to it, and copy `i` from it. -/
theorem waitSR_guard (j i : Fin 6) (hij : opp i = j) (p : Prop) [Decidable p] (hp : p = (has j c = true)) (Q : PUnit → sProp 𝕄) :
    iprop(records m ρ K ∗ (Sent j c ∗ atPos ER (sendCell j c) 0 ∅ 0)
        ∗ (cred (tallyAt (recvCell i c) () (if has (opp i) c = true then N i else 0)) ∗ Land1 i c ∗ atPos ER (recvCell i c) 0 ∅ 0) ∗ owing c 0)
      ⊢ iprop(((owing c 0 ∗ (Src0 j c ∗ spent m ρ (sendCell j c)) ∗ (Got m ρ i c ∗ spent m ρ (recvCell i c))) -∗ Q ⟨⟩)
          -∗ WP c (guard p fun _ => waitS j >>= fun _ => waitR i) Q) := by
  by_cases h : p
  · rw [wp_guard_true c h, WP, wp_bind]
    iintro ⟨#Hrec, ⟨HS, HaS⟩, ⟨Hc, HL, HaR⟩, HO⟩ Hk
    iapply (waitS_wp m ρ K c j (hp ▸ h) _) $$ [HS HaS HO]
    · isplitr; · iexact Hrec
      isplitl [HS]; · iexact HS
      isplitl [HO] <;> iassumption
    iintro ⟨HO, HS⟩
    iapply (waitR_wp m ρ K c i (hij ▸ hp ▸ h) _) $$ [Hc HL HaR HO]
    · isplitr; · iexact Hrec
      isplitl [Hc]; · iexact Hc
      isplitl [HL]; · iexact HL
      isplitl [HO] <;> iassumption
    iintro ⟨HO, HR⟩
    iapply Hk
    isplitl [HO]; · iexact HO
    isplitl [HS] <;> iassumption
  · iintro ⟨-, HS, ⟨-, HR⟩, HO⟩ Hk
    iapply (wp_guard_false c h)
    iapply Hk
    isplitl [HO]; · iexact HO
    isplitl [HS]
    · iapply (idleS m ρ c j (hp ▸ h)); iexact HS
    · iapply (idleR m ρ c i (hij ▸ hp ▸ h)); iexact HR

/-! ### Copies and loads -/

theorem hz3 : (![0, 0, 0] : Fin 3 → ℕ) = fun _ => 0 := funext fun a => by fin_cases a <;> rfl

omit [FloatOps F] in
theorem whole_written (b : Ref sig .tc) {o : Fin b.ty.shape.rank → ℕ} (h : o = fun _ => 0) (inb : ∀ a, o a + b.ty.shape.size a ≤ b.ty.shape.size a)
    (f w : b.ty.Contents (Elt F)) :
    (Memref.whole b : Memref sig .tc _ _ _).view.read (Elt F) (((Memref.whole b).access (Rect.unit o b.ty.shape.size inb) : View sig .tc _ _ _).write (Elt F) f w Finset.univ) = w := by
  rw [Memref.write_access_unit_zero_univ (Elt F) b h]; rfl

omit [FloatOps F] in
/-- A send buffer reads what was last stored to it. -/
theorem src_written (j : Fin 6) (f : (srcM j).view.ty.Contents (Elt F)) (w : (SH j).Idx → Elt F .f32) :
    (srcM j).view.read (Elt F) (((srcM j).access (fullR j)).write (Elt F) f w Finset.univ) = w := by
  fin_cases j <;> exact whole_written _ hz3 _ _ _

omit [FloatOps F] in
/-- A load of a whole halo buffer reads its contents. -/
theorem dst_loaded (j : Fin 6) (f : (dstM j).view.ty.Contents (Elt F)) :
    (dstM j).view.readAt (Elt F) (fullR j).toLoadRect f = (dstM j).view.read (Elt F) f := by
  fin_cases j <;> exact Memref.readAt_unit_zero (Elt F) _ hz3 _ _

/-- The kernel stores the face it loaded. -/
theorem payS_eq : (j : Fin 6) → (v : Vec F (SH j) .f32) → payS j v = v
  | 0, v => by show k0_pay2 v = v; unfold k0_pay2; simp only [shapeCast_self]
  | 1, v => by show k0_pay3 v = v; unfold k0_pay3; simp only [shapeCast_self]
  | 2, v => by show k0_pay4 v = v; unfold k0_pay4; simp only [shapeCast_self]
  | 3, v => by show k0_pay5 v = v; unfold k0_pay5; simp only [shapeCast_self]
  | 4, v => by show k0_pay6 v = v; unfold k0_pay6; simp only [shapeCast_self]
  | 5, v => by show k0_pay7 v = v; unfold k0_pay7; simp only [shapeCast_self]

omit [FloatOps F] in
theorem amount_dst (j : Fin 6) : (dstM j).view.amount (.dma (recvQ j)) = N j := rfl

/-- Copy `j`: the send buffer and the neighbour's halo buffer go under way; what is owed for the copy is paid. -/
theorem send_wp (j : Fin 6) (h : has j c = true) (n : Dev nD) (hn : n = nb j c) (O : CellTallies nD τ sig Unit) (Q : PUnit → sProp 𝕄) :
    iprop(records m ρ K ∗ xPts m ρ c ∗ Src0 j c ∗ given j c ∗ (tokR j c ∗ tokS j c) ∗ owing c (O + oR j c))
      ⊢ iprop(((xPts m ρ c ∗ Sent j c ∗ owing c O) -∗ Q ⟨⟩) -∗ WP c (sendProg j n) Q) := by
  subst hn
  unfold owing tokR tokS sendProg Sent given Src0 srcAt dstAt xPts owns
  rw [if_pos h, if_pos h]
  simp only [Prog.lift, Prog.bind_op, Prog.bind_ret]
  iintro ⟨#Hrec, Hx, ⟨%X, %fs, -, Hs⟩, ⟨%Y, %fd, -, Hd⟩, ⟨HtR, HtS⟩, ⟨%W, HO⟩⟩ Hk
  iapply (wp_load 𝒱₀ (c : Thread nD τ) none Set.univ (m := xM) (Finset.subset_univ _)) $$ Hx; iintro Hx
  iapply (wp_load 𝒱₀ (c : Thread nD τ) none Set.univ (m := srcM j) (View.setOn_subset_set _ _)) $$ Hs; iintro Hs
  iapply (wp_store 𝒱₀ (c : Thread nD τ) none Set.univ (m := srcM j) (r := fullR j) (Mk := Finset.univ) (by rw [srcM_set]; exact Finset.subset_univ _)) $$ Hs; iintro Hs
  rw [payS_eq, show xM.view.readAt (Elt F) (faceR j).toLoadRect (xstg m ρ c) = face m ρ j c from rfl]
  iapply (Rounds.wp_send_pointsTo 𝒱₀ ER (rd m ρ) (c : Thread nD τ) none (c' := (nb j c : Thread nD τ)) (src := srcM j) (dst := dstM j)
    (fs := ((srcM j).access (fullR j)).write (Elt F) fs (face m ρ j c) Finset.univ) (fd := fd) (κ₁ := K (c, kS j)) (κ₂ := K (nb j c, kR j))
    (r₁ := 0) (r₂ := 0) (d₁ := 0) (d₂ := 0)
    (by rw [duties_send m ρ c j h]; exact Finset.mem_singleton_self _)
    (by rw [duties_recv m ρ (nb j c) j ((has_nb j c).trans h)]; exact Finset.mem_singleton_self _)
    () () (N j) (amount_dst j) (amount_send m ρ c j 0) (amount_recv m ρ (nb j c) j 0) (O₀ := O + oR j c) O (by unfold oR; rw [if_pos h]) (W := W)
    (by
      rw [payload_send]; unfold srcAt owns
      iintro H; iexists _; isplitr
      · ipureintro; exact src_written j fs _
      iexact H)
    (by
      rw [payload_recv, nb_opp]; unfold dstAt owns
      iintro H; iexists _; isplitr
      · ipureintro; exact (View.read_write_univ fd _).trans (src_written j fs _)
      iexact H)) $$ [Hs Hd HtR HtS HO]
  · isplitr; · iapply (inv_of m ρ K (c, kS j) _ (kcell_S j c)); iexact Hrec
    isplitr; · iapply (inv_of m ρ K (nb j c, kR j) _ (kcell_R j (nb j c))); iexact Hrec
    isplitl [Hs]; · iexact Hs
    isplitl [Hd]; · iexact Hd
    isplitl [HO]; · iexact HO
    isplitl [HtS]; · iexact HtS
    isplitr; · iapply (reached_of m ρ K (c, kS j) _ (kcell_S j c)); iexact Hrec
    isplitl [HtR]; · iexact HtR
    iapply (reached_of m ρ K (nb j c, kR j) _ (kcell_R j (nb j c))); iexact Hrec
  iintro ⟨Hc, HO⟩
  rw [wp_ret]; imodintro
  iapply Hk
  isplitl [Hx]; · iexact Hx
  isplitl [Hc]; · iexact Hc
  iexists W; iexact HO

/-- A copy made only if there is the neighbour. -/
theorem send_guard (j : Fin 6) (p : Prop) [Decidable p] (hp : p = (has j c = true)) (n : p → Dev nD) (hn : ∀ h, n h = nb j c)
    (O : CellTallies nD τ sig Unit) (Q : PUnit → sProp 𝕄) :
    iprop(records m ρ K ∗ xPts m ρ c ∗ Src0 j c ∗ given j c ∗ (tokR j c ∗ tokS j c) ∗ owing c (O + oR j c))
      ⊢ iprop(((xPts m ρ c ∗ Sent j c ∗ owing c O) -∗ Q ⟨⟩) -∗ WP c (guard p fun h => sendProg j (n h)) Q) := by
  by_cases h : p
  · rw [wp_guard_true c h]; exact send_wp m ρ K c j (hp ▸ h) _ (hn h) O Q
  · have h' : ¬ has j c = true := hp ▸ h
    rw [oR_none c _ h', add_zero]
    iintro ⟨-, Hx, HS, -, -, HO⟩ Hk
    iapply (wp_guard_false c h)
    iapply Hk
    isplitl [Hx]; · iexact Hx
    isplitl [HS]
    · unfold Sent; rw [if_neg h']; iexact HS
    iexact HO

/-- A load of halo buffer `j`, holding `X`, reads `X`. -/
theorem load_wp (j : Fin 6) (X : (SH j).Idx → Elt F .f32) {hl : (dstM j).view.LoadsAt (fullR j).toLoadRect} {α : Type} (k : Vec F (SH j) .f32 → KProg F α) (Q : α → sProp 𝕄) :
    dstAt j c X ⊢ iprop((dstAt j c X -∗ WP c (k X) Q) -∗ WP c (Prog.lift (.load (dstM j) (fullR j).toLoadRect hl) >>= k) Q) := by
  unfold dstAt owns Prog.lift
  iintro ⟨%f, %hf, Hd⟩ Hk
  iapply (wp_load 𝒱₀ (c : Thread nD τ) none Set.univ (m := dstM j) (View.setOn_subset_set _ _)) $$ Hd; iintro Hd
  rw [dst_loaded, hf]
  iapply Hk
  iexists f; isplitr
  · ipureintro; exact hf
  iexact Hd

end Blocks

end Cert.KernelIdeal.Halo

end
-- ==== Proof.KernelIdeal.Stencil.lean ====
/-
# The stencil at one element

The kernel extends its block by the six halo buffers, adds six shifted copies to `-6` times the block, and keeps the
sum where the element is inside the whole array, zero on the whole array's rim. Read at one element, this is a sum of
seven terms: six neighbours (`nbr`) and the element itself.
-/
module

public import proofs.«01_k».proof.Proof.KernelIdeal.Program
public import Idealize.ShloMosaic.Lib.Pipeline.Value
public import Idealize.ShloMosaic.Lib.Pointwise

@[expose] public section

noncomputable section

namespace Cert.KernelIdeal.Halo

open Cert.KernelIdeal Cert.KernelIdeal.Gen Cert.Halo
open Idealize.ShloMosaic

variable {F : FTy → Type} [FloatOps F]

/-- What the kernel stores on device `c`, from its block `u` and what its halo buffers hold. -/
def outW (c : Dev nD) (u : Vec F S16x16x16 .f32) (X : (i : Fin 6) → (SH i).Idx → Elt F .f32) : Vec F S16x16x16 .f32 :=
  k0_pay1 (k0_pay11 (k0_pay8 u) (k0_pay9 u) (k0_pay10 (k0_pay8 u) (X 1) (X 0)) (X 3) (X 2) (X 5) (X 4))
    (k0_pay12 (zW c)) (k0_pay13 (xW c) (yW c)) (k0_pay14 (zW c))

/-! ## The neighbours of an element -/

/-- One down, one up along an axis of a block. -/
def dn (n : Fin 16) : Fin 16 := ⟨n.val - 1, by have := n.isLt; omega⟩
def up (n : Fin 16) : Fin 16 := ⟨(n.val + 1) % 16, Nat.mod_lt _ (by decide)⟩

/-- The neighbour of element `i` in direction `j`: in the block `u`, or across its side in the halo that came from that direction. -/
def nbr {α : Type} (u : S16x16x16.Idx → α) (X : (i : Fin 6) → (SH i).Idx → α) (j : Fin 6) (i : S16x16x16.Idx) : α := match j with
  | 0 => if (i 0).val = 0 then X 1 (ix3 (0 : Fin 1) (i 1) (i 2)) else u (ix3 (dn (i 0)) (i 1) (i 2))
  | 1 => if (i 0).val = 15 then X 0 (ix3 (0 : Fin 1) (i 1) (i 2)) else u (ix3 (up (i 0)) (i 1) (i 2))
  | 2 => if (i 1).val = 0 then X 3 (ix3 (i 0) (0 : Fin 1) (i 2)) else u (ix3 (i 0) (dn (i 1)) (i 2))
  | 3 => if (i 1).val = 15 then X 2 (ix3 (i 0) (0 : Fin 1) (i 2)) else u (ix3 (i 0) (up (i 1)) (i 2))
  | 4 => if (i 2).val = 0 then X 5 (ix3 (i 0) (i 1) (0 : Fin 1)) else u (ix3 (i 0) (i 1) (dn (i 2)))
  | 5 => if (i 2).val = 15 then X 4 (ix3 (i 0) (i 1) (0 : Fin 1)) else u (ix3 (i 0) (i 1) (up (i 2)))

/-- A slice of a concatenation, read at `i`, is the piece that `i`, shifted, falls into. -/
theorem slice_cat {α : Type} {t S : Shape} (a : Fin t.rank) (xs : List ((s : Shape) × (s.Idx → α))) (h : Shape.Concatenates (xs.map (·.1)) t a)
    (off : Fin t.rank → ℕ) (hs : t.Slices off S) (i : S.Idx) (k : ℕ) (hk : k < xs.length) (s₁ : Shape) (x₁ : s₁.Idx → α) (hxk : xs[k] = ⟨s₁, x₁⟩)
    (hr : s₁.rank = t.rank) (pre : ℕ) (hpre : (((xs.take k).map (·.1)).map fun s => if h : s.rank = t.rank then s.size (a.cast h.symm) else 0).sum = pre)
    (y : s₁.Idx) (hy : ∀ b : Fin s₁.rank, b.cast hr ≠ a → (y b).val = off (b.cast hr) + (i ((b.cast hr).cast hs.1.symm)).val)
    (ha : pre + (y (a.cast hr.symm)).val = off a + (i (a.cast hs.1.symm)).val) :
    extractStridedSlice S off (concatenate t a xs h) hs i = x₁ y := by
  unfold extractStridedSlice
  exact concatenate_apply_piece a xs h _ k hk s₁ x₁ hxk hr pre hpre y hy ha

section Sides
variable {α : Type} (u : S16x16x16.Idx → α) (X : (i : Fin 6) → (SH i).Idx → α) (i : S16x16x16.Idx)

/-- The block with both halos along one axis. -/
abbrev padX := concatenate S18x16x16 0 [⟨S1x16x16, X 1⟩, ⟨S16x16x16, u⟩, ⟨S1x16x16, X 0⟩] concatenates_S1x16x16_S16x16x16_S1x16x16_S18x16x16_d0
abbrev padY := concatenate S16x18x16 1 [⟨S16x1x16, X 3⟩, ⟨S16x16x16, u⟩, ⟨S16x1x16, X 2⟩] concatenates_S16x1x16_S16x16x16_S16x1x16_S16x18x16_d1
abbrev padZ := concatenate S16x16x18 2 [⟨S16x16x1, X 5⟩, ⟨S16x16x16, u⟩, ⟨S16x16x1, X 4⟩] concatenates_S16x16x1_S16x16x16_S16x16x1_S16x16x18_d2

theorem side0 : extractStridedSlice S16x16x16 ![0, 0, 0] (padX u X) slices_S18x16x16_o0_0_0_S16x16x16 i = nbr u X 0 i := by
  unfold nbr; dsimp only; split
  · next h =>
    exact slice_cat (t := S18x16x16) _ _ _ _ _ i 0 (by show 0 < 3; decide) S1x16x16 (X 1) rfl rfl 0 rfl (ix3 (0 : Fin 1) (i 1) (i 2))
      (fun b hb => by fin_cases b <;> first | exact absurd rfl hb | exact (Nat.zero_add _).symm) (by show 0 + 0 = 0 + (i 0).val; omega)
  · next h =>
    exact slice_cat (t := S18x16x16) _ _ _ _ _ i 1 (by show 1 < 3; decide) S16x16x16 u rfl rfl 1 rfl (ix3 (dn (i 0)) (i 1) (i 2))
      (fun b hb => by fin_cases b <;> first | exact absurd rfl hb | exact (Nat.zero_add _).symm) (by show 1 + ((i 0).val - 1) = 0 + (i 0).val; omega)
theorem side1 : extractStridedSlice S16x16x16 ![2, 0, 0] (padX u X) slices_S18x16x16_o2_0_0_S16x16x16 i = nbr u X 1 i := by
  have := (i 0).isLt
  unfold nbr; dsimp only; split
  · next h =>
    exact slice_cat (t := S18x16x16) _ _ _ _ _ i 2 (by show 2 < 3; decide) S1x16x16 (X 0) rfl rfl 17 rfl (ix3 (0 : Fin 1) (i 1) (i 2))
      (fun b hb => by fin_cases b <;> first | exact absurd rfl hb | exact (Nat.zero_add _).symm) (by show 17 + 0 = 2 + (i 0).val; omega)
  · next h =>
    exact slice_cat (t := S18x16x16) _ _ _ _ _ i 1 (by show 1 < 3; decide) S16x16x16 u rfl rfl 1 rfl (ix3 (up (i 0)) (i 1) (i 2))
      (fun b hb => by fin_cases b <;> first | exact absurd rfl hb | exact (Nat.zero_add _).symm)
      (by change (i 0).val < 16 at this; change ¬ (i 0).val = 15 at h; show 1 + ((i 0).val + 1) % 16 = 2 + (i 0).val; omega)
theorem side2 : extractStridedSlice S16x16x16 ![0, 0, 0] (padY u X) slices_S16x18x16_o0_0_0_S16x16x16 i = nbr u X 2 i := by
  unfold nbr; dsimp only; split
  · next h =>
    exact slice_cat (t := S16x18x16) _ _ _ _ _ i 0 (by show 0 < 3; decide) S16x1x16 (X 3) rfl rfl 0 rfl (ix3 (i 0) (0 : Fin 1) (i 2))
      (fun b hb => by fin_cases b <;> first | exact absurd rfl hb | exact (Nat.zero_add _).symm) (by show 0 + 0 = 0 + (i 1).val; omega)
  · next h =>
    exact slice_cat (t := S16x18x16) _ _ _ _ _ i 1 (by show 1 < 3; decide) S16x16x16 u rfl rfl 1 rfl (ix3 (i 0) (dn (i 1)) (i 2))
      (fun b hb => by fin_cases b <;> first | exact absurd rfl hb | exact (Nat.zero_add _).symm) (by show 1 + ((i 1).val - 1) = 0 + (i 1).val; omega)
theorem side3 : extractStridedSlice S16x16x16 ![0, 2, 0] (padY u X) slices_S16x18x16_o0_2_0_S16x16x16 i = nbr u X 3 i := by
  have := (i 1).isLt
  unfold nbr; dsimp only; split
  · next h =>
    exact slice_cat (t := S16x18x16) _ _ _ _ _ i 2 (by show 2 < 3; decide) S16x1x16 (X 2) rfl rfl 17 rfl (ix3 (i 0) (0 : Fin 1) (i 2))
      (fun b hb => by fin_cases b <;> first | exact absurd rfl hb | exact (Nat.zero_add _).symm) (by show 17 + 0 = 2 + (i 1).val; omega)
  · next h =>
    exact slice_cat (t := S16x18x16) _ _ _ _ _ i 1 (by show 1 < 3; decide) S16x16x16 u rfl rfl 1 rfl (ix3 (i 0) (up (i 1)) (i 2))
      (fun b hb => by fin_cases b <;> first | exact absurd rfl hb | exact (Nat.zero_add _).symm)
      (by change (i 1).val < 16 at this; change ¬ (i 1).val = 15 at h; show 1 + ((i 1).val + 1) % 16 = 2 + (i 1).val; omega)
theorem side4 : extractStridedSlice S16x16x16 ![0, 0, 0] (padZ u X) slices_S16x16x18_o0_0_0_S16x16x16 i = nbr u X 4 i := by
  unfold nbr; dsimp only; split
  · next h =>
    exact slice_cat (t := S16x16x18) _ _ _ _ _ i 0 (by show 0 < 3; decide) S16x16x1 (X 5) rfl rfl 0 rfl (ix3 (i 0) (i 1) (0 : Fin 1))
      (fun b hb => by fin_cases b <;> first | exact absurd rfl hb | exact (Nat.zero_add _).symm) (by show 0 + 0 = 0 + (i 2).val; omega)
  · next h =>
    exact slice_cat (t := S16x16x18) _ _ _ _ _ i 1 (by show 1 < 3; decide) S16x16x16 u rfl rfl 1 rfl (ix3 (i 0) (i 1) (dn (i 2)))
      (fun b hb => by fin_cases b <;> first | exact absurd rfl hb | exact (Nat.zero_add _).symm) (by show 1 + ((i 2).val - 1) = 0 + (i 2).val; omega)
theorem side5 : extractStridedSlice S16x16x16 ![0, 0, 2] (padZ u X) slices_S16x16x18_o0_0_2_S16x16x16 i = nbr u X 5 i := by
  have := (i 2).isLt
  unfold nbr; dsimp only; split
  · next h =>
    exact slice_cat (t := S16x16x18) _ _ _ _ _ i 2 (by show 2 < 3; decide) S16x16x1 (X 4) rfl rfl 17 rfl (ix3 (i 0) (i 1) (0 : Fin 1))
      (fun b hb => by fin_cases b <;> first | exact absurd rfl hb | exact (Nat.zero_add _).symm) (by show 17 + 0 = 2 + (i 2).val; omega)
  · next h =>
    exact slice_cat (t := S16x16x18) _ _ _ _ _ i 1 (by show 1 < 3; decide) S16x16x16 u rfl rfl 1 rfl (ix3 (i 0) (i 1) (up (i 2)))
      (fun b hb => by fin_cases b <;> first | exact absurd rfl hb | exact (Nat.zero_add _).symm)
      (by change (i 2).val < 16 at this; change ¬ (i 2).val = 15 at h; show 1 + ((i 2).val + 1) % 16 = 2 + (i 2).val; omega)

end Sides

/-! ## Which elements are inside the whole array -/

/-- Element `i` of device `c`'s block is not on the whole array's rim. -/
def Inside (c : Dev nD) (i : S16x16x16.Idx) : Prop :=
  (0 < 16 * px c + (i 0).val ∧ 16 * px c + (i 0).val < 31) ∧ (0 < 16 * py c + (i 1).val ∧ 16 * py c + (i 1).val < 31)
    ∧ 0 < 16 * pz c + (i 2).val ∧ 16 * pz c + (i 2).val < 63

instance (c : Dev nD) (i : S16x16x16.Idx) : Decidable (Inside c i) := by unfold Inside; infer_instance

theorem and_bit : ∀ a b : BitVec 1, IntOp.andi a b = 1#1 ↔ a = 1#1 ∧ b = 1#1 := by decide

/-- The kernel's place on an axis, in 32-bit words. -/
abbrev place (w : BitVec 32) (n : Fin 16) : BitVec 32 := IntOp.addi (Scalar.muli w 16#32) (BitVec.ofNat 32 n.val)

theorem placeX : ∀ (c : Dev nD) (n : Fin 16), (IntOp.cmpi .sgt (place (xW c) n) 0#32 = 1#1 ↔ 0 < 16 * px c + n.val)
    ∧ (IntOp.cmpi .slt (place (xW c) n) 31#32 = 1#1 ↔ 16 * px c + n.val < 31) := by decide +kernel
theorem placeY : ∀ (c : Dev nD) (n : Fin 16), (IntOp.cmpi .sgt (place (yW c) n) 0#32 = 1#1 ↔ 0 < 16 * py c + n.val)
    ∧ (IntOp.cmpi .slt (place (yW c) n) 31#32 = 1#1 ↔ 16 * py c + n.val < 31) := by decide +kernel
theorem placeZ : ∀ (c : Dev nD) (n : Fin 16), (IntOp.cmpi .sgt (place (zW c) n) 0#32 = 1#1 ↔ 0 < 16 * pz c + n.val)
    ∧ (IntOp.cmpi .slt (place (zW c) n) 63#32 = 1#1 ↔ 16 * pz c + n.val < 63) := by decide +kernel

/-- The kernel's mask at an element. -/
def mask (c : Dev nD) (i : S16x16x16.Idx) : BitVec 1 :=
  have X := IntOp.addi (Scalar.muli (xW c) 16#32) (iota .tc S16x16x16 32 [0] iota_S16x16x16_d0_w32 i)
  have Y := IntOp.addi (Scalar.muli (yW c) 16#32) (iota .tc S16x16x16 32 [1] iota_S16x16x16_d1_w32 i)
  have Z := IntOp.addi (Scalar.muli (zW c) 16#32) (iota .tc S16x16x16 32 [2] iota_S16x16x16_d2_w32 i)
  IntOp.andi (IntOp.andi (IntOp.andi (IntOp.andi (IntOp.andi (IntOp.cmpi .sgt X 0#32) (IntOp.cmpi .slt X 31#32))
    (IntOp.cmpi .sgt Y 0#32)) (IntOp.cmpi .slt Y 31#32)) (IntOp.cmpi .sgt Z 0#32)) (IntOp.cmpi .slt Z 63#32)

theorem mask_iff (c : Dev nD) (i : S16x16x16.Idx) : mask c i = 1#1 ↔ Inside c i := by
  unfold mask Inside
  rw [iota_single_apply, iota_single_apply, iota_single_apply]
  dsimp only
  rw [and_bit, and_bit, and_bit, and_bit, and_bit, (placeX c (i 0)).1, (placeX c (i 0)).2, (placeY c (i 1)).1, (placeY c (i 1)).2,
    (placeZ c (i 2)).1, (placeZ c (i 2)).2]
  tauto

/-! ## The result at one element -/

/-- `-6` times an element, plus its six neighbours in the kernel's order. -/
def sum7 (u : Vec F S16x16x16 .f32) (X : (i : Fin 6) → (SH i).Idx → Elt F .f32) (i : S16x16x16.Idx) : Elt F .f32 :=
  FloatOps.addf (FloatOps.addf (FloatOps.addf (FloatOps.addf (FloatOps.addf (FloatOps.addf (FloatOps.mulf (Scalar.ofBits .f32 0xC0C00000#32) (u i))
    (nbr u X 0 i)) (nbr u X 1 i)) (nbr u X 2 i)) (nbr u X 3 i)) (nbr u X 4 i)) (nbr u X 5 i)

/-- Inside, the kernel's result is the seven-term sum; on the rim, zero. -/
theorem outW_apply (c : Dev nD) (u : Vec F S16x16x16 .f32) (X : (i : Fin 6) → (SH i).Idx → Elt F .f32) (i : S16x16x16.Idx) :
    outW c u X i = if Inside c i then sum7 u X i else Scalar.ofBits .f32 0x00000000#32 := by
  have h : outW c u X i = if mask c i = 1#1 then sum7 u X i else Scalar.ofBits .f32 0x00000000#32 := by
    unfold sum7
    rw [← side0, ← side1, ← side2, ← side3, ← side4, ← side5]
    unfold outW k0_pay10 k0_pay9 k0_pay8
    rw [shapeCast_self]
    rfl
  rw [h]
  exact if_congr (mask_iff c i) rfl rfl

theorem place_lt : ∀ c : Dev nD, px c < 2 ∧ py c < 2 ∧ pz c < 4 := by decide

/-- An element inside the whole array and on its block's side has a device across that side. -/
theorem has_across (c : Dev nD) (i : S16x16x16.Idx) (hI : Inside c i) :
    ((i 0).val = 0 → has 0 c = true) ∧ ((i 0).val = 15 → has 1 c = true) ∧ ((i 1).val = 0 → has 2 c = true) ∧ ((i 1).val = 15 → has 3 c = true)
      ∧ ((i 2).val = 0 → has 4 c = true) ∧ ((i 2).val = 15 → has 5 c = true) := by
  obtain ⟨⟨h1, h2⟩, ⟨h3, h4⟩, h5, h6⟩ := hI
  obtain ⟨hx, hy, hz⟩ := place_lt c
  refine ⟨fun h => ?_, fun h => ?_, fun h => ?_, fun h => ?_, fun h => ?_, fun h => ?_⟩ <;>
    simp only [has, beq_iff_eq, Bool.not_eq_true', beq_eq_false_iff_ne, ne_eq] <;> omega

/-- Halo buffers on sides without a neighbour do not matter. -/
theorem outW_congr (c : Dev nD) (u : Vec F S16x16x16 .f32) (X X' : (i : Fin 6) → (SH i).Idx → Elt F .f32)
    (h : ∀ i, has (opp i) c = true → X i = X' i) : outW c u X = outW c u X' := by
  funext i
  rw [outW_apply, outW_apply]
  refine if_ctx_congr Iff.rfl (fun hI => ?_) fun _ => rfl
  obtain ⟨h0, h1, h2, h3, h4, h5⟩ := has_across c i hI
  have e (j : Fin 6) : nbr u X j i = nbr u X' j i := by
    fin_cases j <;> refine if_ctx_congr Iff.rfl (fun hh => ?_) fun _ => rfl
    · exact congrFun (h 1 (h0 hh)) _
    · exact congrFun (h 0 (h1 hh)) _
    · exact congrFun (h 3 (h2 hh)) _
    · exact congrFun (h 2 (h3 hh)) _
    · exact congrFun (h 5 (h4 hh)) _
    · exact congrFun (h 4 (h5 hh)) _
  unfold sum7
  rw [e 0, e 1, e 2, e 3, e 4, e 5]

end Cert.KernelIdeal.Halo

end
-- ==== Proof.KernelIdeal.Body.lean ====
/-
# The kernel body, once, on a symbolic device

From what a device starts with — its place in the exchange, its scratch buffers, its staged block — the body runs to
its result: the block's stencil, computed from the block and the faces its neighbours sent.
-/
module

public import proofs.«01_k».proof.Proof.KernelIdeal.Steps
public import proofs.«01_k».proof.Proof.KernelIdeal.Stencil

@[expose] public section

noncomputable section

namespace Cert.KernelIdeal.Halo

open Cert.KernelIdeal Cert.KernelIdeal.Gen Cert.Halo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The result -/

/-- The face that reaches device `c`'s halo buffer `i`. Where there is no neighbour any values do. -/
def halo (c : Dev nD) (i : Fin 6) : (SH i).Idx → Elt F .f32 :=
  if has (opp i) c = true then face m ρ i (nb (opp i) c) else face m ρ i c

/-- The kernel's result on device `c`. -/
def outAt (c : Dev nD) : (cc0_stg1_0 : Ref sig .tc).ty.Contents (Elt F) := outW c (xstg m ρ c) (halo m ρ c)

/-! ## What a device holds -/

/-- One resource for each direction. -/
abbrev six (Φ : Fin 6 → sProp 𝕄) : sProp 𝕄 := iprop(Φ 0 ∗ Φ 1 ∗ Φ 2 ∗ Φ 3 ∗ Φ 4 ∗ Φ 5)

/-- A device's credit on the receive semaphore of copy `j`. -/
def credR (j : Fin 6) (c : Dev nD) : sProp 𝕄 := cred (tallyAt (recvCell j c) () (if has (opp j) c = true then N j else 0))

/-- A device's positions at the first round of each of its cells, and the tokens of the duties it pays. -/
def linear (c : Dev nD) : sProp 𝕄 :=
  iprop((bigSep Finset.univ fun k : Fin 13 => atPos ER (kcell (c, k)) 0 ∅ 0)
    ∗ six (fun j => tokB j c) ∗ six (fun j => tokR j c) ∗ six (fun j => tokS j c))

def ghost (K : Dev nD × Fin 13 → ℕ) (c : Dev nD) : sProp 𝕄 := iprop(records m ρ K ∗ linear c)

def start (c : Dev nD) : sProp 𝕄 :=
  iprop((∃ K, ghost m ρ K c) ∗ cred (tallyAt (barCell c) () (dirs c).card) ∗ six (fun j => credR j c) ∗ levAts L lv)

/-- The twelve scratch buffers, with any contents. -/
def scratch (c : Dev nD) : sProp 𝕄 := iprop(six (fun j => Land0 j c) ∗ six (fun j => Src0 j c))

def Φ₀ (c : Dev nD) : sProp 𝕄 := iprop(start m ρ c ∗ scratch c)
/-- After the body: the scratch buffers, and every semaphore at zero. -/
def Φ₁ (c : Dev nD) : sProp 𝕄 := iprop(scratch c ∗ bigSep Finset.univ fun k : Fin 13 => semVal (kcell (c, k)) 0)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
theorem bigSep_cells (Φ : GSem nD τ sig → sProp 𝕄) (c : Dev nD) :
    (bigSep Finset.univ fun k : Fin 13 => Φ (kcell (c, k)))
      = iprop(Φ (barCell c) ∗ Φ (sendCell 0 c) ∗ Φ (sendCell 1 c) ∗ Φ (sendCell 2 c) ∗ Φ (sendCell 3 c) ∗ Φ (sendCell 4 c) ∗ Φ (sendCell 5 c)
          ∗ Φ (recvCell 0 c) ∗ Φ (recvCell 1 c) ∗ Φ (recvCell 2 c) ∗ Φ (recvCell 3 c) ∗ Φ (recvCell 4 c) ∗ Φ (recvCell 5 c)) := by
  rw [bigSep_univ_eq_bigSepL [0, 1, 2, 3, 4, 5, 6, 7, 8, 9, 10, 11, 12] (by decide) (by decide)]; rfl

omit [FloatOps F] in
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

section Body

variable (K : Dev nD × Fin 13 → ℕ) (c : Dev nD)

omit [FloatOps F] in
/-- With no rounds left the cells give back their semaphores, at zero. -/
theorem close_all : iprop(records m ρ K ∗ bigSep Finset.univ fun k : Fin 13 => spent m ρ (kcell (c, k)))
    ⊢ (|={Set.univ}=> bigSep Finset.univ fun k : Fin 13 => semVal (kcell (c, k)) 0 : sProp 𝕄) := by
  refine (bigSep_with (R := records m ρ K) fun k _ => ?_).trans (bigSep_fupd _ _)
  unfold spent
  iintro ⟨#Hrec, %R, %hR, Hat⟩
  iapply (Rounds.cell_close ER (rd m ρ) (Set.mem_univ (K (c, k))) (fun h => h) (R := R) hR)
  isplitr; · iapply (inv_of m ρ K (c, k) _ rfl); iexact Hrec
  iexact Hat

theorem O₀_split : O₀ c = O₁ c + oB 5 c + oB 4 c + oB 2 c + oB 3 c + oB 0 c + oB 1 c := by
  unfold O₀ O₁; rw [Fin.sum_univ_six (fun j => oB j c)]; ac_rfl
theorem O₁_split : O₁ c = 0 + oR 5 c + oR 4 c + oR 3 c + oR 2 c + oR 1 c + oR 0 c := by
  unfold O₁; rw [Fin.sum_univ_six, zero_add]; ac_rfl

/-- The signals: every halo buffer with a neighbour on its side is handed over — the last of them after `signals`. -/
theorem signals_wp (Q : PUnit → sProp 𝕄) :
    iprop(records m ρ K ∗ owing c (O₀ c) ∗ six (fun j => tokB j c) ∗ six (fun j => Land0 j c))
      ⊢ iprop(((owing c (O₁ c + oB 5 c) ∗ (tokB 4 c ∗ Land0 4 c) ∗ Land1 0 c ∗ Land1 1 c ∗ Land1 2 c ∗ Land1 3 c ∗ Land1 5 c) -∗ Q ⟨⟩) -∗ WP c (signals c) Q) := by
  unfold signals
  rw [O₀_split]
  iintro ⟨#Hrec, HO, ⟨B0, B1, B2, B3, B4, B5⟩, ⟨L0, L1, L2, L3, L4, L5⟩⟩ Hk
  rw [WP, wp_bind]
  iapply (signal_pair m ρ K c 1 0 (has_x c) _ (dev1_nb c) (dev1_nb c) (O₁ c + oB 5 c + oB 4 c + oB 2 c + oB 3 c) _) $$ [HO B0 L0 B1 L1]
  · isplitr; · iexact Hrec
    isplitl [HO]; · iexact HO
    isplitl [B1 L1]
    · isplitl [B1] <;> iassumption
    · isplitl [B0] <;> iassumption
  iintro ⟨HO, L1, L0⟩
  rw [wp_bind]
  iapply (signal_pair m ρ K c 3 2 (has_y c) _ (dev2_nb c) (dev2_nb c) (O₁ c + oB 5 c + oB 4 c) _) $$ [HO B2 L2 B3 L3]
  · isplitr; · iexact Hrec
    isplitl [HO]; · iexact HO
    isplitl [B3 L3]
    · isplitl [B3] <;> iassumption
    · isplitl [B2] <;> iassumption
  iintro ⟨HO, L3, L2⟩
  iapply (signal_guard m ρ K c 5 _ (cond1_has c) (fun h => ⟨k0_dev3 c, k0_dev3_lt c h⟩) (dev3_nb c) (O₁ c + oB 5 c) _) $$ [HO B5 L5]
  · isplitr; · iexact Hrec
    isplitl [HO]; · iexact HO
    isplitl [B5] <;> iassumption
  iintro ⟨HO, L5⟩
  iapply Hk
  isplitl [HO]; · iexact HO
  isplitl [B4 L4]
  · isplitl [B4] <;> iassumption
  isplitl [L0]; · iexact L0
  isplitl [L1]; · iexact L1
  isplitl [L2]; · iexact L2
  isplitl [L3]; · iexact L3
  iexact L5

/-- The last signal, the barrier, the copies. -/
theorem sends_wp (Q : PUnit → sProp 𝕄) :
    iprop(records m ρ K ∗ levAts L lv ∗ cred (tallyAt (barCell c) () (dirs c).card) ∗ owing c (O₁ c + oB 5 c) ∗ (tokB 4 c ∗ Land0 4 c) ∗ atPos ER (barCell c) 0 ∅ 0
        ∗ xPts m ρ c ∗ six (fun j => Src0 j c) ∗ six (fun j => tokR j c) ∗ six (fun j => tokS j c))
      ⊢ iprop(((owing c 0 ∗ Land1 4 c ∗ spent m ρ (barCell c) ∗ xPts m ρ c ∗ six (fun j => Sent j c)) -∗ Q ⟨⟩) -∗ WP c (sends c) Q) := by
  unfold sends
  iintro ⟨#Hrec, #Hlev, Hc, HO, ⟨B4, L4⟩, Hat, Hx, ⟨S0, S1, S2, S3, S4, S5⟩, ⟨R0, R1, R2, R3, R4, R5⟩, ⟨T0, T1, T2, T3, T4, T5⟩⟩ Hk
  rw [WP, wp_bind]
  iapply (signal_guard m ρ K c 4 _ (cond2_has c) (fun h => ⟨k0_dev4 c, k0_dev4_lt c h⟩) (dev4_nb c) (O₁ c) _) $$ [HO B4 L4]
  · isplitr; · iexact Hrec
    isplitl [HO]; · iexact HO
    isplitl [B4] <;> iassumption
  iintro ⟨HO, L4⟩
  rw [wp_bind]
  iapply (barrier_wp m ρ K c _) $$ [Hc HO Hat]
  · isplitr; · iexact Hrec
    isplitr; · iexact Hlev
    isplitl [Hc]; · iexact Hc
    isplitl [HO] <;> iassumption
  rw [O₁_split]
  iintro ⟨HO, Hsp, G0, G1, G2, G3, G4, G5⟩
  rw [wp_bind]
  iapply (send_guard m ρ K c 0 _ (cond3_has c) (fun h => ⟨k0_dev5 c, k0_dev5_lt c h⟩) (dev5_nb c) (0 + oR 5 c + oR 4 c + oR 3 c + oR 2 c + oR 1 c) _) $$ [Hx S0 G0 R0 T0 HO]
  · isplitr; · iexact Hrec
    isplitl [Hx]; · iexact Hx
    isplitl [S0]; · iexact S0
    isplitl [G0]; · iexact G0
    isplitl [R0 T0]
    · isplitl [R0] <;> iassumption
    iexact HO
  iintro ⟨Hx, S0, HO⟩
  rw [wp_bind]
  iapply (send_guard m ρ K c 1 _ (cond4_has c) (fun h => ⟨k0_dev6 c, k0_dev6_lt c h⟩) (dev6_nb c) (0 + oR 5 c + oR 4 c + oR 3 c + oR 2 c) _) $$ [Hx S1 G1 R1 T1 HO]
  · isplitr; · iexact Hrec
    isplitl [Hx]; · iexact Hx
    isplitl [S1]; · iexact S1
    isplitl [G1]; · iexact G1
    isplitl [R1 T1]
    · isplitl [R1] <;> iassumption
    iexact HO
  iintro ⟨Hx, S1, HO⟩
  rw [wp_bind]
  iapply (send_guard m ρ K c 2 _ (cond5_has c) (fun h => ⟨k0_dev7 c, k0_dev7_lt c h⟩) (dev7_nb c) (0 + oR 5 c + oR 4 c + oR 3 c) _) $$ [Hx S2 G2 R2 T2 HO]
  · isplitr; · iexact Hrec
    isplitl [Hx]; · iexact Hx
    isplitl [S2]; · iexact S2
    isplitl [G2]; · iexact G2
    isplitl [R2 T2]
    · isplitl [R2] <;> iassumption
    iexact HO
  iintro ⟨Hx, S2, HO⟩
  rw [wp_bind]
  iapply (send_guard m ρ K c 3 _ (cond6_has c) (fun h => ⟨k0_dev8 c, k0_dev8_lt c h⟩) (dev8_nb c) (0 + oR 5 c + oR 4 c) _) $$ [Hx S3 G3 R3 T3 HO]
  · isplitr; · iexact Hrec
    isplitl [Hx]; · iexact Hx
    isplitl [S3]; · iexact S3
    isplitl [G3]; · iexact G3
    isplitl [R3 T3]
    · isplitl [R3] <;> iassumption
    iexact HO
  iintro ⟨Hx, S3, HO⟩
  rw [wp_bind]
  iapply (send_guard m ρ K c 4 _ (cond7_has c) (fun h => ⟨k0_dev9 c, k0_dev9_lt c h⟩) (dev9_nb c) (0 + oR 5 c) _) $$ [Hx S4 G4 R4 T4 HO]
  · isplitr; · iexact Hrec
    isplitl [Hx]; · iexact Hx
    isplitl [S4]; · iexact S4
    isplitl [G4]; · iexact G4
    isplitl [R4 T4]
    · isplitl [R4] <;> iassumption
    iexact HO
  iintro ⟨Hx, S4, HO⟩
  iapply (send_guard m ρ K c 5 _ (cond8_has c) (fun h => ⟨k0_dev10 c, k0_dev10_lt c h⟩) (dev10_nb c) 0 _) $$ [Hx S5 G5 R5 T5 HO]
  · isplitr; · iexact Hrec
    isplitl [Hx]; · iexact Hx
    isplitl [S5]; · iexact S5
    isplitl [G5]; · iexact G5
    isplitl [R5 T5]
    · isplitl [R5] <;> iassumption
    iexact HO
  iintro ⟨Hx, S5, HO⟩
  iapply Hk
  isplitl [HO]; · iexact HO
  isplitl [L4]; · iexact L4
  isplitl [Hsp]; · iexact Hsp
  isplitl [Hx]; · iexact Hx
  isplitl [S0]; · iexact S0
  isplitl [S1]; · iexact S1
  isplitl [S2]; · iexact S2
  isplitl [S3]; · iexact S3
  isplitl [S4]; · iexact S4
  iexact S5

/-- What the waits need of copies in direction `j`: the send buffer's and halo buffer's state, the credit, the positions. -/
def pend (j : Fin 6) (c : Dev nD) : sProp 𝕄 :=
  iprop((Sent j c ∗ atPos ER (sendCell j c) 0 ∅ 0) ∗ (credR j c ∗ Land1 j c ∗ atPos ER (recvCell j c) 0 ∅ 0))
/-- What they leave. -/
def done (j : Fin 6) (c : Dev nD) : sProp 𝕄 :=
  iprop((Src0 j c ∗ spent m ρ (sendCell j c)) ∗ (Got m ρ j c ∗ spent m ρ (recvCell j c)))

/-- The four waits along an axis with exactly one neighbour, and so the copies `j` and `i`, its opposite. -/
theorem axis_wp (j i : Fin 6) (hij : opp i = j) (hji : opp j = i) (p q : Prop) [Decidable p] [Decidable q] (hp : p = (has i c = true)) (hq : q = (has j c = true))
    {α : Type} (k : PUnit → KProg F α) (Q : α → sProp 𝕄) :
    iprop(records m ρ K ∗ owing c 0 ∗ pend j c ∗ pend i c)
      ⊢ iprop(((owing c 0 ∗ done m ρ j c ∗ done m ρ i c) -∗ WP c (k ⟨⟩) Q)
        -∗ WP c (guard p (fun _ => waitR j) >>= fun _ => guard q (fun _ => waitS j >>= fun _ => waitR i) >>= fun _ => guard p (fun _ => waitS i) >>= k) Q) := by
  unfold pend done credR WP
  iintro ⟨#Hrec, HO, ⟨⟨Sj, Aj⟩, ⟨Cj, Lj, Bj⟩⟩, ⟨⟨Si, Ai⟩, ⟨Ci, Li, Bi⟩⟩⟩ Hk
  rw [wp_bind]
  iapply (waitR_guard m ρ K c j p (by rw [hp, hji]) _) $$ [HO Cj Lj Bj]
  · isplitr; · iexact Hrec
    isplitl [Cj]; · iexact Cj
    isplitl [Lj]; · iexact Lj
    isplitl [HO] <;> iassumption
  iintro ⟨HO, Gj, Bj⟩
  rw [wp_bind]
  iapply (waitSR_guard m ρ K c j i hij q hq _) $$ [HO Sj Aj Ci Li Bi]
  · isplitr; · iexact Hrec
    isplitl [Sj Aj]
    · isplitl [Sj] <;> iassumption
    isplitl [Ci Li Bi]
    · isplitl [Ci]; · iexact Ci
      isplitl [Li] <;> iassumption
    iexact HO
  iintro ⟨HO, Sj, Gi⟩
  rw [wp_bind]
  iapply (waitS_guard m ρ K c i p hp _) $$ [HO Si Ai]
  · isplitr; · iexact Hrec
    isplitl [Si]; · iexact Si
    isplitl [HO] <;> iassumption
  iintro ⟨HO, Si⟩
  iapply Hk
  isplitl [HO]; · iexact HO
  isplitl [Sj Gj Bj]
  · isplitl [Sj]; · iexact Sj
    isplitl [Gj] <;> iassumption
  · isplitl [Si] <;> iassumption

/-- The waits. -/
theorem waits_wp (Q : PUnit → sProp 𝕄) :
    iprop(records m ρ K ∗ owing c 0 ∗ six (fun j => pend j c))
      ⊢ iprop(((owing c 0 ∗ six (fun j => done m ρ j c)) -∗ Q ⟨⟩) -∗ WP c (waits (xW c) (yW c) (zW c)) Q) := by
  unfold waits
  iintro ⟨#Hrec, HO, ⟨P0, P1, P2, P3, P4, P5⟩⟩ Hk
  iapply (axis_wp m ρ K c 0 1 rfl rfl _ _ (x0_has c) (x1_has c) _ _) $$ [HO P0 P1]
  · isplitr; · iexact Hrec
    isplitl [HO]; · iexact HO
    isplitl [P0] <;> iassumption
  iintro ⟨HO, D0, D1⟩
  iapply (axis_wp m ρ K c 2 3 rfl rfl _ _ (y0_has c) (y1_has c) _ _) $$ [HO P2 P3]
  · isplitr; · iexact Hrec
    isplitl [HO]; · iexact HO
    isplitl [P2] <;> iassumption
  iintro ⟨HO, D2, D3⟩
  unfold pend credR
  icases P4 with ⟨S4, C4⟩
  icases P5 with ⟨S5, C5⟩
  rw [WP, wp_bind]
  iapply (waitSR_guard m ρ K c 4 5 rfl _ (zp_has c) _) $$ [HO S4 C5]
  · isplitr; · iexact Hrec
    isplitl [S4]; · iexact S4
    isplitl [C5]; · iexact C5
    iexact HO
  iintro ⟨HO, S4, G5⟩
  iapply (waitSR_guard m ρ K c 5 4 rfl _ (zl_has c) _) $$ [HO S5 C4]
  · isplitr; · iexact Hrec
    isplitl [S5]; · iexact S5
    isplitl [C4]; · iexact C4
    iexact HO
  iintro ⟨HO, S5, G4⟩
  iapply Hk
  isplitl [HO]; · iexact HO
  isplitl [D0]; · iexact D0
  isplitl [D1]; · iexact D1
  isplitl [D2]; · iexact D2
  isplitl [D3]; · iexact D3
  unfold done
  isplitl [S4 G4]
  · isplitl [S4] <;> iassumption
  isplitl [S5] <;> iassumption

abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The result buffer. -/
def oPts (f : Buf (Elt F) ((c : Thread nD τ).loc cc0_stg1_0)) : sProp 𝕄 := iprop((c : Thread nD τ).loc cc0_stg1_0 ↦{fullShare} f)

omit [FloatOps F] in
theorem read_x (f : (cc0_stg0_0 : Ref sig .tc).ty.Contents (Elt F)) : xM.view.readAt (Elt F) blkR.toLoadRect f = f :=
  Memref.readAt_unit_zero (Elt F) cc0_stg0_0 hz3 _ f
omit [FloatOps F] in
theorem write_out (f w : (cc0_stg1_0 : Ref sig .tc).ty.Contents (Elt F)) :
    (oM.access blkR : View sig .tc _ _ _).write (Elt F) f w Finset.univ = w :=
  Memref.write_access_unit_zero_univ (Elt F) cc0_stg1_0 hz3 _ f w

omit [FloatOps F] in
theorem Got_halo (i : Fin 6) (X : (SH i).Idx → Elt F .f32) (h : has (opp i) c = true → X = face m ρ i (nb (opp i) c)) (h' : has (opp i) c = true) :
    X = halo m ρ c i := by
  unfold halo; rw [if_pos h']; exact h h'

/-- Contents for each of the six halo buffers. -/
def tup (X0 : (SH 0).Idx → Elt F .f32) (X1 : (SH 1).Idx → Elt F .f32) (X2 : (SH 2).Idx → Elt F .f32) (X3 : (SH 3).Idx → Elt F .f32)
    (X4 : (SH 4).Idx → Elt F .f32) (X5 : (SH 5).Idx → Elt F .f32) : (i : Fin 6) → (SH i).Idx → Elt F .f32
  | 0 => X0 | 1 => X1 | 2 => X2 | 3 => X3 | 4 => X4 | 5 => X5

/-- The whole program of device `c`. -/
theorem prog_wp (fo : Buf (Elt F) ((c : Thread nD τ).loc cc0_stg1_0)) (Q : PUnit → sProp 𝕄) :
    iprop(ghost m ρ K c ∗ cred (tallyAt (barCell c) () (dirs c).card) ∗ six (fun j => credR j c) ∗ levAts L lv ∗ scratch c
        ∗ owing c (O₀ c) ∗ xPts m ρ c ∗ oPts c fo)
      ⊢ iprop(((Φ₁ c ∗ owing c 0 ∗ xPts m ρ c ∗ oPts c (outAt m ρ c)) -∗ Q ⟨⟩) -∗ WP c (prog c) Q) := by
  unfold prog ghost linear scratch
  rw [bigSep_cells (fun g => atPos ER g 0 ∅ 0) c]
  iintro ⟨⟨#Hrec, ⟨Ab, A0, A1, A2, A3, A4, A5, V0, V1, V2, V3, V4, V5⟩, HB, HR, HT⟩, Hcb, ⟨C0, C1, C2, C3, C4, C5⟩, #Hlev, ⟨HL, HS⟩, HO, Hx, Ho⟩ Hk
  rw [WP, wp_bind]
  iapply (signals_wp m ρ K c _) $$ [HO HB HL]
  · isplitr; · iexact Hrec
    isplitl [HO]; · iexact HO
    isplitl [HB] <;> iassumption
  iintro ⟨HO, HL4, L0, L1, L2, L3, L5⟩
  rw [wp_bind]
  iapply (sends_wp m ρ K c _) $$ [Hcb HO HL4 Ab Hx HS HR HT]
  · isplitr; · iexact Hrec
    isplitr; · iexact Hlev
    isplitl [Hcb]; · iexact Hcb
    isplitl [HO]; · iexact HO
    isplitl [HL4]; · iexact HL4
    isplitl [Ab]; · iexact Ab
    isplitl [Hx]; · iexact Hx
    isplitl [HS]; · iexact HS
    isplitl [HR] <;> iassumption
  iintro ⟨HO, L4, Ab, Hx, ⟨S0, S1, S2, S3, S4, S5⟩⟩
  unfold xPts
  rw [Prog.lift, Prog.bind_op]
  iapply (wp_load 𝒱₀ (c : Thread nD τ) none Set.univ (m := xM) (Finset.subset_univ _)) $$ Hx; iintro Hx
  rw [read_x, Prog.bind_ret, wp_bind]
  iapply (waits_wp m ρ K c _) $$ [HO S0 S1 S2 S3 S4 S5 A0 A1 A2 A3 A4 A5 C0 C1 C2 C3 C4 C5 L0 L1 L2 L3 L4 L5 V0 V1 V2 V3 V4 V5]
  · isplitr; · iexact Hrec
    isplitl [HO]; · iexact HO
    unfold pend
    isplitl [S0 A0 C0 L0 V0]
    · isplitl [S0 A0]
      · isplitl [S0] <;> iassumption
      isplitl [C0]; · iexact C0
      isplitl [L0] <;> iassumption
    isplitl [S1 A1 C1 L1 V1]
    · isplitl [S1 A1]
      · isplitl [S1] <;> iassumption
      isplitl [C1]; · iexact C1
      isplitl [L1] <;> iassumption
    isplitl [S2 A2 C2 L2 V2]
    · isplitl [S2 A2]
      · isplitl [S2] <;> iassumption
      isplitl [C2]; · iexact C2
      isplitl [L2] <;> iassumption
    isplitl [S3 A3 C3 L3 V3]
    · isplitl [S3 A3]
      · isplitl [S3] <;> iassumption
      isplitl [C3]; · iexact C3
      isplitl [L3] <;> iassumption
    isplitl [S4 A4 C4 L4 V4]
    · isplitl [S4 A4]
      · isplitl [S4] <;> iassumption
      isplitl [C4]; · iexact C4
      isplitl [L4] <;> iassumption
    isplitl [S5 A5]
    · isplitl [S5] <;> iassumption
    isplitl [C5]; · iexact C5
    isplitl [L5] <;> iassumption
  unfold done Got
  iintro ⟨HO, ⟨⟨S0, A0⟩, ⟨%X0, %h0, L0⟩, V0⟩, ⟨⟨S1, A1⟩, ⟨%X1, %h1, L1⟩, V1⟩, ⟨⟨S2, A2⟩, ⟨%X2, %h2, L2⟩, V2⟩,
    ⟨⟨S3, A3⟩, ⟨%X3, %h3, L3⟩, V3⟩, ⟨⟨S4, A4⟩, ⟨%X4, %h4, L4⟩, V4⟩, ⟨⟨S5, A5⟩, ⟨%X5, %h5, L5⟩, V5⟩⟩
  iapply (load_wp c 1 X1 _ _) $$ L1; iintro L1
  iapply (load_wp c 0 X0 _ _) $$ L0; iintro L0
  iapply (load_wp c 3 X3 _ _) $$ L3; iintro L3
  iapply (load_wp c 2 X2 _ _) $$ L2; iintro L2
  iapply (load_wp c 5 X5 _ _) $$ L5; iintro L5
  iapply (load_wp c 4 X4 _ _) $$ L4; iintro L4
  unfold oPts
  simp only [Prog.lift, Prog.bind_op, Prog.bind_ret]
  iapply (wp_load 𝒱₀ (c : Thread nD τ) none Set.univ (m := oM) (Finset.subset_univ _)) $$ Ho; iintro Ho
  iapply (wp_store 𝒱₀ (c : Thread nD τ) none Set.univ (m := oM) (r := blkR) (Mk := Finset.univ) (Finset.subset_univ _)) $$ Ho; iintro Ho
  imod (close_all m ρ K c) $$ [Ab A0 A1 A2 A3 A4 A5 V0 V1 V2 V3 V4 V5] with Hz
  · isplitr; · iexact Hrec
    rw [bigSep_cells (fun g => spent m ρ g) c]
    isplitl [Ab]; · iexact Ab
    isplitl [A0]; · iexact A0
    isplitl [A1]; · iexact A1
    isplitl [A2]; · iexact A2
    isplitl [A3]; · iexact A3
    isplitl [A4]; · iexact A4
    isplitl [A5]; · iexact A5
    isplitl [V0]; · iexact V0
    isplitl [V1]; · iexact V1
    isplitl [V2]; · iexact V2
    isplitl [V3]; · iexact V3
    isplitl [V4]; · iexact V4
    iexact V5
  rw [write_out, wp_ret]; imodintro
  iapply Hk
  unfold Φ₁ scratch
  isplitl [Hz S0 S1 S2 S3 S4 S5 L0 L1 L2 L3 L4 L5]
  · isplitl [S0 S1 S2 S3 S4 S5 L0 L1 L2 L3 L4 L5]
    · isplitl [L0 L1 L2 L3 L4 L5]
      · unfold Land0
        isplitl [L0]; · iexists X0; iexact L0
        isplitl [L1]; · iexists X1; iexact L1
        isplitl [L2]; · iexists X2; iexact L2
        isplitl [L3]; · iexists X3; iexact L3
        isplitl [L4]; · iexists X4; iexact L4
        iexists X5; iexact L5
      · isplitl [S0]; · iexact S0
        isplitl [S1]; · iexact S1
        isplitl [S2]; · iexact S2
        isplitl [S3]; · iexact S3
        isplitl [S4]; · iexact S4
        iexact S5
    iexact Hz
  isplitl [HO]; · iexact HO
  isplitl [Hx]; · iexact Hx
  rw [show outAt m ρ c = outW c (xstg m ρ c) (tup X0 X1 X2 X3 X4 X5) from (outW_congr c _ _ _ fun
    | 0, hi => Got_halo m ρ c 0 X0 h0 hi
    | 1, hi => Got_halo m ρ c 1 X1 h1 hi
    | 2, hi => Got_halo m ρ c 2 X2 h2 hi
    | 3, hi => Got_halo m ρ c 3 X3 h3 hi
    | 4, hi => Got_halo m ρ c 4 X4 h4 hi
    | 5, hi => Got_halo m ρ c 5 X5 h5 hi).symm]
  iexact Ho

def bodyPre : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost : sProp 𝕄 :=
  iprop(Φ₁ c ∗ (dats m ρ 0 c).owesAt () t₀.succ ∗ stg c cc0_stg0_0 (xstg m ρ c) ∗ stg c cc0_stg1_0 (outAt m ρ c))

/-- The body, from what the launch deals a device to its result. -/
theorem sound_body : bodyPre m ρ c ⊢ wp frame (wpE (defs₀ (F := F)) 𝒱₀ c none) Set.univ body (fun _ => bodyPost m ρ c) := by
  rw [body_eq, Prog.lift, Prog.bind_op, wp_deviceId, Prog.bind_ret]
  unfold bodyPre Φ₀ start
  iintro ⟨⟨⟨⟨%K, Hg⟩, Hcb, HC, Hlev⟩, Hscr⟩, Ho, ⟨%d0, %g0, %hg0, Hx⟩, ⟨%d1, %g1, %hg1, Hout⟩⟩
  have hx : g0 = xstg m ρ c := by rw [hg0]; unfold Dat.before; rw [if_pos (fetch_0 t₀)]; rfl
  subst hx
  unfold Dat.owesAt Pipeline.owesWithin
  icases Ho with ⟨%W, %hW, HO⟩
  iapply (prog_wp m ρ K c g1 _) $$ [Hg Hcb HC Hlev Hscr Hx Hout HO]
  · isplitl [Hg]; · iexact Hg
    isplitl [Hcb]; · iexact Hcb
    isplitl [HC]; · iexact HC
    isplitl [Hlev]; · iexact Hlev
    isplitl [Hscr]; · iexact Hscr
    isplitl [HO]; · unfold owing; iexists W; iexact HO
    isplitl [Hx]; · unfold xPts; iexact Hx
    unfold oPts; iexact Hout
  unfold bodyPost Dat.owesAt Pipeline.owesWithin owing xPts oPts
  iintro ⟨HΦ, ⟨%W', HO⟩, Hx, Hout⟩
  isplitl [HΦ]; · iexact HΦ
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  exact sound_body m ρ c

end Body

end Cert.KernelIdeal.Halo

end
-- ==== Proof.KernelIdeal.Launch.lean ====
/-
# The launch

The ghost state of the exchange is minted, dealt to the devices and allocated; with it every device starts its body,
and the run of the program on sixteen devices follows.
-/
module

public import proofs.«01_k».proof.Proof.KernelIdeal.Body
public import Idealize.ShloMosaic.Lib.Quiescent
public import Idealize.ShloMosaic.Lib.Pipeline.CollectiveSegs

@[expose] public section

noncomputable section

namespace Cert.KernelIdeal.Halo

open Cert.KernelIdeal Cert.KernelIdeal.Gen Cert.Halo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

/-- The kernel's own semaphores: the six send, then the six receive semaphores. -/
abbrev osem : Fin 12 → SemLoc sig := fun i => .dma ⟨2 + i.val, by have := i.isLt; show _ < 14; omega⟩

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide

theorem kcell_injective : Function.Injective (kcell : Dev nD × Fin 13 → GSem nD τ sig) := by
  rintro ⟨c, k⟩ ⟨c', k'⟩ h
  have h1 : c = c' := congrArg (fun g : GSem nD τ sig => g.1.1) h
  have h2 : k = k' := csem_injective (congrArg Prod.snd h)
  rw [h1, h2]
def cells : Finset (GSem nD τ sig) := Finset.univ.map ⟨kcell, kcell_injective⟩

/-- The duties: of each barrier, one for each direction; of each send and each receive semaphore, one. -/
abbrev tokOf (x : Fin 3 × Dev nD × Fin 6) : GSem nD τ sig × ℕ × Fin 6 := match x.1 with
  | 0 => (barCell x.2.1, 0, x.2.2)
  | 1 => (recvCell x.2.2 x.2.1, 0, 0)
  | 2 => (sendCell x.2.2 x.2.1, 0, 0)

theorem tok_sems : ∀ k k' : Fin 3, ∀ j j' : Fin 6,
    (match k with | 0 => (SemLoc.reg barS, j) | 1 => (SemLoc.dma (recvQ j), 0) | 2 => (SemLoc.dma (sendQ j), (0 : Fin 6)) : SemLoc sig × Fin 6)
      = (match k' with | 0 => (SemLoc.reg barS, j') | 1 => (SemLoc.dma (recvQ j'), 0) | 2 => (SemLoc.dma (sendQ j'), 0)) → k = k' ∧ j = j' := by decide

theorem tokOf_injective : Function.Injective tokOf := by
  rintro ⟨k, c, j⟩ ⟨k', c', j'⟩ h
  have h1 : c = c' := by
    have := congrArg (fun x : GSem nD τ sig × ℕ × Fin 6 => x.1.1.1) h
    fin_cases k <;> fin_cases k' <;> exact this
  have h2 : k = k' ∧ j = j' := tok_sems k k' j j' (by
    have := congrArg (fun x : GSem nD τ sig × ℕ × Fin 6 => (x.1.2, x.2.2)) h
    fin_cases k <;> fin_cases k' <;> exact this)
  rw [h1, h2.1, h2.2]
def allToks : Finset (GSem nD τ sig × ℕ × Fin 6) := Finset.univ.map ⟨tokOf, tokOf_injective⟩

def u₀ : UU := (initOf (Pipeline.cells cfgs cellOf_inj) (Pipeline.launchToks cfgs cellOf_inj), initOf cells allToks)

/-- The tokens of the duties of device `c`'s own cells. -/
def toks (c : Dev nD) : sProp 𝕄 :=
  iprop((bigSep Finset.univ fun j : Fin 6 => dutyTok ER (barCell c) 0 j) ∗ (bigSep Finset.univ fun j : Fin 6 => dutyTok ER (recvCell j c) 0 0)
    ∗ (bigSep Finset.univ fun j : Fin 6 => dutyTok ER (sendCell j c) 0 0))

/-- What the launch's ghost state deals device `c`. -/
def G (c : Dev nD) : sProp 𝕄 :=
  iprop((bigSep Finset.univ fun k : Fin 13 => roundState ER (rd m ρ) (kcell (c, k)) 0)
    ∗ ((bigSep Finset.univ fun k : Fin 13 => atPos ER (kcell (c, k)) 0 ∅ 0) ∗ (bigSep Finset.univ fun k : Fin 13 => reached ER (kcell (c, k)) 0)) ∗ toks c)

/-- What device `c` has once the cells are allocated. -/
def G' (c : Dev nD) : sProp 𝕄 := iprop(∃ K, ghost m ρ K c)

omit [FloatOps F] in
theorem bigSep_three (Φ : Fin 3 → sProp 𝕄) : bigSep Finset.univ Φ = iprop(Φ 0 ∗ Φ 1 ∗ Φ 2) := bigSep_univ_eq_bigSepL [0, 1, 2] (by decide) (by decide) Φ

omit [FloatOps F] in
theorem fund_all : BI.own (ER (initOf cells allToks)) ⊢ (|==> bigSep Finset.univ (G m ρ) : sProp 𝕄) := by
  have hX (Φ : GSem nD τ sig → sProp 𝕄) : bigSep cells Φ = bigSep Finset.univ fun c : Dev nD => bigSep Finset.univ fun k : Fin 13 => Φ (kcell (c, k)) := by
    unfold cells; rw [bigSep_map, bigSep_univ_prod]; rfl
  have hT : bigSep allToks (fun x => (dutyTok ER x.1 x.2.1 x.2.2 : sProp 𝕄)) = bigSep Finset.univ fun c : Dev nD => toks c := by
    unfold allToks toks
    rw [bigSep_map, bigSep_univ_prod, bigSep_three, bigSep_sep', bigSep_sep']
    refine congrArg₂ _ ?_ (congrArg₂ _ ?_ ?_) <;> (rw [bigSep_univ_prod]; rfl)
  iintro HX
  imod (Rounds.fund ER (rd m ρ) cells allToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; rw [bigSep_sep', bigSep_sep', bigSep_sep']
  isplitl [Hst']; · iexact Hst'
  isplitl [Hat' Hr']
  · isplitl [Hat'] <;> iassumption
  iexact Htok'

/-! ## Allocation -/

omit [FloatOps F] in
/-- A device's semaphores, at zero: the barrier, unscoped, and the kernel's own. -/
theorem sems_eq (c : Dev nD) :
    iprop(unscopedSems0 c ∗ Pipeline.ownSems0 (Ix := Unit) (Name := ℕ) (U := UU) (Lvl := ℕ) (Val := Elt F) (τ := τ) osem c)
      = (bigSep Finset.univ fun k : Fin 13 => semVal (kcell (c, k)) 0 : sProp 𝕄) := by
  rw [bigSep_cells (fun g => semVal g 0) c, Pipeline.ownSems0_eq_of_list c osem [0, 1, 2, 3, 4, 5, 6, 7, 8, 9, 10, 11] (by decide) (by decide)]
  unfold unscopedSems0
  rw [bigSep_eq_bigSepL_of_eq [SemLoc.reg barS] (by decide) (by decide)]
  rfl

omit [FloatOps F] in
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ ((bigSep Finset.univ fun k => atPos ER (kcell (c, k)) 0 ∅ 0) ∗ (bigSep Finset.univ fun k => reached ER (kcell (c, k)) 0)) ∗ toks c) := by
  unfold G
  iintro ⟨Hos, Hus, Hst, Hat, Htok⟩
  ihave Hv := (Entails.of_eq (sems_eq (F := F) c)) $$ [Hos Hus]
  · isplitl [Hus] <;> iassumption
  imod (show iprop((bigSep Finset.univ fun k : Fin 13 => semVal (kcell (c, k)) 0) ∗ bigSep Finset.univ fun k : Fin 13 => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens of the duties device `c` pays. -/
def payToks (c : Dev nD) : sProp 𝕄 :=
  iprop((bigSep Finset.univ fun j : Fin 6 => tokB j c) ∗ (bigSep Finset.univ fun j : Fin 6 => tokR j c) ∗ (bigSep Finset.univ fun j : Fin 6 => tokS j c))

omit [FloatOps F] in
/-- A sum over devices and directions, taken at the neighbours. -/
theorem around (e : Dev nD × Fin 6 ≃ Dev nD × Fin 6) (Φ : Dev nD × Fin 6 → sProp 𝕄) :
    (bigSep Finset.univ fun c : Dev nD => bigSep Finset.univ fun j : Fin 6 => Φ (c, j))
      = bigSep Finset.univ fun c : Dev nD => bigSep Finset.univ fun j : Fin 6 => Φ (e (c, j)) := by
  rw [← bigSep_univ_prod Φ, bigSep_univ_equiv e Φ, bigSep_univ_prod]

omit [FloatOps F] in
/-- Every token goes to the device that pays its duty. -/
theorem toks_around : (bigSep Finset.univ fun c : Dev nD => (toks c : sProp 𝕄)) = bigSep Finset.univ fun c : Dev nD => payToks c := by
  unfold toks payToks
  rw [bigSep_sep', bigSep_sep', bigSep_sep', bigSep_sep',
    around step.symm (fun p : Dev nD × Fin 6 => (dutyTok ER (barCell p.1) 0 p.2 : sProp 𝕄)),
    around step (fun p : Dev nD × Fin 6 => (dutyTok ER (recvCell p.2 p.1) 0 0 : sProp 𝕄))]
  rfl

omit [FloatOps F] in
theorem ghost_intro (K : Dev nD × Fin 13 → ℕ) (c : Dev nD) :
    iprop(records m ρ K ∗ (bigSep Finset.univ fun k : Fin 13 => atPos ER (kcell (c, k)) 0 ∅ 0) ∗ payToks c) ⊢ G' m ρ c := by
  unfold G' ghost linear payToks
  rw [bigSep_six (fun j => tokB j c), bigSep_six (fun j => tokR j c), bigSep_six (fun j => tokS j c)]
  iintro H
  iexists K; iexact H

omit [FloatOps F] in
theorem regroup :
    (bigSep Finset.univ fun c : Dev nD => iprop((bigSep Finset.univ fun k => iprop(∃ κ : ℕ, cellInv ER (rd m ρ) κ (kcell (c, k))))
          ∗ ((bigSep Finset.univ fun k => atPos ER (kcell (c, k)) 0 ∅ 0) ∗ (bigSep Finset.univ fun k => reached ER (kcell (c, k)) 0)) ∗ toks c) : sProp 𝕄)
      ⊢ bigSep Finset.univ (G' m ρ) := by
  rw [bigSep_sep', bigSep_sep', bigSep_sep', ← bigSep_univ_prod (fun ck : Dev nD × Fin 13 => iprop(∃ κ : ℕ, cellInv ER (rd m ρ) κ (kcell ck))),
    ← bigSep_univ_prod (fun ck : Dev nD × Fin 13 => (reached ER (kcell ck) 0 : sProp 𝕄)), toks_around]
  iintro ⟨HI, ⟨Hat, #HR⟩, Htok⟩
  ihave HK := (BI.bigSep_exists_pi Finset.univ (fun (ck : Dev nD × Fin 13) (κ : ℕ) => (cellInv ER (rd m ρ) κ (kcell ck) : sProp 𝕄))) $$ HI
  icases HK with ⟨%K, #HI⟩
  iapply (bigSep_with (R := records m ρ K) fun c _ => ghost_intro m ρ K c)
  isplitr
  · unfold records; isplitl; · iexact HI
    iexact HR
  · rw [bigSep_sep']
    isplitl [Hat]; · iexact Hat
    iexact Htok

omit [FloatOps F] in
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit: what the neighbours owe a device -/

theorem bar_inj {a b : Dev nD} (h : barCell a = barCell b) : a = b := congrArg (fun g : GSem nD τ sig => g.1.1) h
theorem recv_inj {i j : Fin 6} {a b : Dev nD} (h : recvCell i a = recvCell j b) : i = j ∧ a = b :=
  ⟨(show ∀ i j : Fin 6, SemLoc.dma (sig := sig) (recvQ i) = .dma (recvQ j) → i = j by decide) i j (congrArg Prod.snd h), congrArg (fun g : GSem nD τ sig => g.1.1) h⟩
theorem bar_ne_recv (j : Fin 6) (a b : Dev nD) : barCell a ≠ recvCell j b := fun h => by cases congrArg Prod.snd h

theorem owed_bar (d c : Dev nD) : O₀ d (barCell c) () = ∑ j : Fin 6, if d = nb (opp j) c then (if has (opp j) c = true then 1 else 0) else 0 := by
  unfold O₀
  rw [Pi.add_apply, Finsupp.add_apply, sum_at, sum_at,
    Finset.sum_eq_zero (s := Finset.univ) (f := fun j => oR j d (barCell c) ()) fun j _ => by unfold oR; rw [tallyAt_ne_cell (bar_ne_recv j _ _)]; rfl, Nat.zero_add]
  refine Finset.sum_congr rfl fun j _ => ?_
  unfold oB
  by_cases h : d = nb (opp j) c
  · subst h; rw [if_pos rfl, nb_opp', tallyAt_apply, if_pos ⟨rfl, rfl⟩, has_nb']
  · rw [if_neg h, tallyAt_ne_cell fun h' => h ((nb_eq_iff j d c).mp (bar_inj h').symm)]; rfl

theorem owed_recv (j : Fin 6) (d c : Dev nD) : O₀ d (recvCell j c) () = if d = nb (opp j) c then (if has (opp j) c = true then N j else 0) else 0 := by
  unfold O₀
  rw [Pi.add_apply, Finsupp.add_apply, sum_at, sum_at,
    Finset.sum_eq_zero (s := Finset.univ) (f := fun i => oB i d (recvCell j c) ()) fun i _ => by unfold oB; rw [tallyAt_ne_cell (bar_ne_recv j _ _).symm]; rfl, Nat.add_zero,
    Finset.sum_eq_single j (fun i _ hi => by unfold oR; rw [tallyAt_ne_cell fun h => hi (recv_inj h).1.symm]; rfl) (fun h => absurd (Finset.mem_univ j) h)]
  unfold oR
  by_cases h : d = nb (opp j) c
  · subst h; rw [if_pos rfl, nb_opp', tallyAt_apply, if_pos ⟨rfl, rfl⟩, has_nb']
  · rw [if_neg h, tallyAt_ne_cell fun h' => h ((nb_eq_iff j d c).mp (recv_inj h').2.symm)]; rfl

theorem card_dirs (c : Dev nD) : (∑ j : Fin 6, if has (opp j) c = true then 1 else 0) = (dirs c).card := by revert c; decide

theorem launch_bar (c : Dev nD) :
    tallyOn (barCell c) (launchCredit (Pipeline.owing O₀) 0 (barCell c)) = (tallyAt (barCell c) () (dirs c).card : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm, ← card_dirs]
  refine Finset.sum_congr rfl fun j _ => ?_
  rw [Finset.sum_ite_eq' Finset.univ (nb (opp j) c) fun _ => _, if_pos (Finset.mem_univ _)]

theorem launch_recv (j : Fin 6) (c : Dev nD) :
    tallyOn (recvCell j c) (launchCredit (Pipeline.owing O₀) 0 (recvCell j c))
      = (tallyAt (recvCell j c) () (if has (opp j) c = true then N j else 0) : CellTallies nD τ sig Unit) := by
  unfold tallyAt; refine congrArg _ (Finsupp.ext fun u => ?_); cases u
  rw [Pipeline.launchCredit_owing, Finsupp.single_eq_same, Finset.sum_congr rfl fun d _ => owed_recv j d c,
    Finset.sum_ite_eq' Finset.univ (nb (opp j) c) fun _ => _, if_pos (Finset.mem_univ _)]

omit [FloatOps F] in
theorem creds (c : Dev nD) :
    (Pipeline.launchCred O₀ c : sProp 𝕄) ⊢ iprop(cred (tallyAt (barCell c) () (dirs c).card) ∗ six (fun j => credR j c)) := by
  have h : (Pipeline.launchCred O₀ c : sProp 𝕄) ⊢ bigSep Finset.univ fun k : Fin 13 => cred (tallyOn (kcell (c, k)) (launchCredit (Pipeline.owing O₀) 0 (kcell (c, k)))) := by
    have h := BI.bigSep_subset (Finset.subset_univ (Finset.univ.map ⟨csem, csem_injective⟩))
      (Φ := fun sm => (cred (tallyOn ((c : Thread nD τ), sm) (launchCredit (Pipeline.owing O₀) 0 ((c : Thread nD τ), sm))) : sProp 𝕄))
    rw [bigSep_map] at h
    exact h
  refine h.trans ?_
  rw [bigSep_cells (fun g => cred (tallyOn g (launchCredit (Pipeline.owing O₀) 0 g))) c]
  simp only [launch_bar, launch_recv]
  unfold credR
  iintro ⟨H, -, -, -, -, -, -, HR⟩
  isplitl [H] <;> iassumption

/-! ## The launch theorem's side conditions -/

omit [FloatOps F] in
/-- A buffer with any contents, told two ways. -/
theorem any_owns (c : Dev nD) (b : Ref sig .tc) :
    iprop(∃ f : Buf (Elt F) ((c : Thread nD τ).loc b), ((c : Thread nD τ).loc b) ↦{fullShare} f)
      ⊢ (iprop(∃ X, owns (Ix := Unit) (Name := ℕ) (U := UU) (Lvl := ℕ) (c : Thread nD τ) (Memref.whole b) fullShare X) : sProp 𝕄) := by
  iintro ⟨%f, H⟩
  iexists f
  rw [owns_whole_eq]
  iexists f; isplitr; · (ipureintro; rfl)
  iexact H
omit [FloatOps F] in
theorem owns_any (c : Dev nD) (b : Ref sig .tc) :
    (iprop(∃ X, owns (Ix := Unit) (Name := ℕ) (U := UU) (Lvl := ℕ) (c : Thread nD τ) (Memref.whole b) fullShare X) : sProp 𝕄)
      ⊢ iprop(∃ f : Buf (Elt F) ((c : Thread nD τ).loc b), ((c : Thread nD τ).loc b) ↦{fullShare} f) := by
  iintro ⟨%X, H⟩
  ihave H' := (Entails.of_eq (owns_whole_eq (F := F) c b X)) $$ H
  icases H' with ⟨%f, -, H'⟩
  iexists f; iexact H'

omit [FloatOps F] in
theorem scratch_in (c : Dev nD) : (Pipeline.scopedRest cfg0.spec c : sProp 𝕄) ⊢ scratch c := by
  rw [scopedRest0_eq]
  unfold scratch Land0 Src0 dstAt srcAt
  iintro ⟨H0, H1, H2, H3, H4, H5, S0, S1, S2, S3, S4, S5⟩
  isplitl [H0 H1 H2 H3 H4 H5]
  · isplitl [H1]; · iapply (any_owns (F := F) c cc0_scratch1); iexact H1
    isplitl [H0]; · iapply (any_owns (F := F) c cc0_scratch0); iexact H0
    isplitl [H3]; · iapply (any_owns (F := F) c cc0_scratch3); iexact H3
    isplitl [H2]; · iapply (any_owns (F := F) c cc0_scratch2); iexact H2
    isplitl [H5]; · iapply (any_owns (F := F) c cc0_scratch5); iexact H5
    iapply (any_owns (F := F) c cc0_scratch4); iexact H4
  · isplitl [S0]; · iapply (any_owns (F := F) c cc0_scratch6); iexact S0
    isplitl [S1]; · iapply (any_owns (F := F) c cc0_scratch7); iexact S1
    isplitl [S2]; · iapply (any_owns (F := F) c cc0_scratch8); iexact S2
    isplitl [S3]; · iapply (any_owns (F := F) c cc0_scratch9); iexact S3
    isplitl [S4]; · iapply (any_owns (F := F) c cc0_scratch10); iexact S4
    iapply (any_owns (F := F) c cc0_scratch11); iexact S5

omit [FloatOps F] in
theorem scratch_out (c : Dev nD) : scratch c ⊢ (Pipeline.scopedRest cfg0.spec c : sProp 𝕄) := by
  rw [scopedRest0_eq]
  unfold scratch Land0 Src0 dstAt srcAt
  iintro ⟨⟨H1, H0, H3, H2, H5, H4⟩, S0, S1, S2, S3, S4, S5⟩
  isplitl [H0]; · iapply (owns_any (F := F) c cc0_scratch0); iexact H0
  isplitl [H1]; · iapply (owns_any (F := F) c cc0_scratch1); iexact H1
  isplitl [H2]; · iapply (owns_any (F := F) c cc0_scratch2); iexact H2
  isplitl [H3]; · iapply (owns_any (F := F) c cc0_scratch3); iexact H3
  isplitl [H4]; · iapply (owns_any (F := F) c cc0_scratch4); iexact H4
  isplitl [H5]; · iapply (owns_any (F := F) c cc0_scratch5); iexact H5
  isplitl [S0]; · iapply (owns_any (F := F) c cc0_scratch6); iexact S0
  isplitl [S1]; · iapply (owns_any (F := F) c cc0_scratch7); iexact S1
  isplitl [S2]; · iapply (owns_any (F := F) c cc0_scratch8); iexact S2
  isplitl [S3]; · iapply (owns_any (F := F) c cc0_scratch9); iexact S3
  isplitl [S4]; · iapply (owns_any (F := F) c cc0_scratch10); iexact S4
  iapply (owns_any (F := F) c cc0_scratch11); iexact S5

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iapply (scratch_in c); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  rw [← sems_eq]
  iintro ⟨Hr, Hu, Ho⟩
  isplitl [Hu]; · iexact Hu
  isplitl [Ho]; · iexact Ho
  iapply (scratch_out c); iexact Hr

theorem stage_waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> rfl) _ (by
      rcases t with ⟨_ | _, ht⟩
      · exact Or.inl rfl
      · exact Or.inr rfl)

/-! ## The run -/

/-- What a device's array `w` holds after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On sixteen devices, for any float values, from any memory with zero counters, every weakly fair execution of the
    program terminates, with every array as `finalA` says and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := stage_waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdeal.Halo

end
-- ==== Proof.KernelIdeal.Result.lean ====
/-
# What the run leaves, in terms of the whole array

When every device's argument is its block of one whole array, every device's result is its block of one whole array
too: the seven-point sum inside, zero on the rim.
-/
module

public import proofs.«01_k».proof.Proof.KernelIdeal.Launch
public import Idealize.ShloMosaic.Lib.Layout

@[expose] public section

noncomputable section

namespace Cert.KernelIdeal.Halo

open Cert.KernelIdeal Cert.KernelIdeal.Gen Cert.Halo

open Idealize.ShloMosaic
open Idealize.ShloMosaic.TcCoe
open Idealize.SL.Sem

variable {F : FTy → Type} [FloatOps F]
variable (m : (ℓ : Loc nD τ sig) → Buf (Elt F) ℓ) (ρ : Dev nD → PrngReg)

/-! ## The arrays after the run -/

omit [FloatOps F] in
/-- A device's block is its argument. -/
theorem xstg_eq (c : Dev nD) : xstg m ρ c = m ((c : Thread nD τ).loc main_arg0) := by
  unfold xstg
  funext i
  rw [View.read_apply]
  exact congrArg (m ((c : Thread nD τ).loc main_arg0)) (funext fun a => Fin.ext (Pipeline.Window.rect_emb_val_of_index_zero win0_0 (0 : Fin 1) a rfl i))

/-- The result's array holds what the body left. -/
theorem finalA_out (c : Dev nD) : finalA m ρ c (1 : Fin 2) = outAt m ρ c := by
  unfold finalA
  have e (i : S16x16x16.Idx) : (win0_1.blk (0 : Fin 1)).view.emb i = i :=
    funext fun a => Fin.ext (Pipeline.Window.rect_emb_val_of_index_zero win0_1 (0 : Fin 1) a rfl i)
  refine (dats (F := F) m ρ 0 c).arrAt_eq_of_cover (1 : Fin 2) (outAt m ρ c) (fun t _ => ?_) fun i => ⟨t₀, rfl, ?_⟩
  · obtain rfl := fin_N t
    funext i
    rw [View.read_apply]
    exact (congrArg (outAt m ρ c) (e i)).symm
  · have := (win0_1.blk (0 : Fin 1)).view.emb_mem_set i
    rw [e i] at this
    exact this

/-- The run, with the two arrays spelled out. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c : Thread nD τ).loc main_v1) = outAt m ρ c ∧ r.2.mem ((c : Thread nD τ).loc main_arg0) = m ((c : Thread nD τ).loc main_arg0))
        ∧ r.2.sem = fun _ => 0 :=
  (θ_run defs _ _).mono (fun r h => ⟨fun c => ⟨(h.1 c (1 : Fin 2)).trans (finalA_out m ρ c), (h.1 c (0 : Fin 2)).trans (finalA_x m ρ c)⟩, h.2⟩) (run_main m ρ)

/-! ## The whole array -/

/-- The whole array's shape. -/
abbrev SG : Shape := ⟨3, ![32, 32, 64]⟩

/-- An element of a whole array, by its place on each axis. -/
def glo {α : Type} (T : SG.Idx → α) (x y z : ℕ) : α :=
  T (ix3 (⟨x % 32, Nat.mod_lt _ (by decide)⟩ : Fin 32) (⟨y % 32, Nat.mod_lt _ (by decide)⟩ : Fin 32) (⟨z % 64, Nat.mod_lt _ (by decide)⟩ : Fin 64))

theorem glo_congr {α : Type} (T : SG.Idx → α) {x y z x' y' z' : ℕ} (hx : x = x') (hy : y = y') (hz : z = z') : glo T x y z = glo T x' y' z' := by
  rw [hx, hy, hz]

/-- The element at an index, by its place. -/
theorem glo_at {α : Type} (T : SG.Idx → α) (k : SG.Idx) {x y z : ℕ} (hx : x = (k 0).val) (hy : y = (k 1).val) (hz : z = (k 2).val) : glo T x y z = T k := by
  subst hx hy hz
  have h0 : (k 0).val < 32 := (k 0).isLt
  have h1 : (k 1).val < 32 := (k 1).isLt
  have h2 : (k 2).val < 64 := (k 2).isLt
  refine congrArg T (funext fun a => Fin.ext ?_)
  match a with
  | ⟨0, _⟩ => exact Nat.mod_eq_of_lt h0
  | ⟨1, _⟩ => exact Nat.mod_eq_of_lt h1
  | ⟨2, _⟩ => exact Nat.mod_eq_of_lt h2

/-- Device `c`'s block of a whole array. -/
abbrev blockOf {α : Type} (T : SG.Idx → α) (c : Dev nD) : S16x16x16.Idx → α :=
  Layout.blockN ⟨3, ![16, 16, 16]⟩ ⟨3, ![32, 32, 64]⟩ (Layout.meshBlock [2, 2, 4] ![[0], [1], [2]] c) T

theorem mesh_place : ∀ c : Dev nD, ((Layout.meshBlock [2, 2, 4] ![[0], [1], [2]] c) 0).val = px c
    ∧ ((Layout.meshBlock [2, 2, 4] ![[0], [1], [2]] c) 1).val = py c ∧ ((Layout.meshBlock [2, 2, 4] ![[0], [1], [2]] c) 2).val = pz c := by decide

/-- A block's element, by its place in the whole array. -/
theorem block_glo {α : Type} (T : SG.Idx → α) (c : Dev nD) (i : S16x16x16.Idx) :
    blockOf T c i = glo T (16 * px c + (i 0).val) (16 * py c + (i 1).val) (16 * pz c + (i 2).val) := by
  obtain ⟨h0, h1, h2⟩ := mesh_place c
  refine (glo_at T _ ?_ ?_ ?_).symm
  · rw [← h0, Nat.mul_comm]; rfl
  · rw [← h1, Nat.mul_comm]; rfl
  · rw [← h2, Nat.mul_comm]; rfl

/-! ## The result as a block -/

/-- The seven-point sum at a place of the whole array; zero on the rim. -/
def lap (T : SG.Idx → Elt F .f32) (x y z : ℕ) : Elt F .f32 :=
  if (0 < x ∧ x < 31) ∧ (0 < y ∧ y < 31) ∧ 0 < z ∧ z < 63 then
    FloatOps.addf (FloatOps.addf (FloatOps.addf (FloatOps.addf (FloatOps.addf (FloatOps.addf (FloatOps.mulf (Scalar.ofBits .f32 0xC0C00000#32) (glo T x y z))
      (glo T (x - 1) y z)) (glo T (x + 1) y z)) (glo T x (y - 1) z)) (glo T x (y + 1) z)) (glo T x y (z - 1))) (glo T x y (z + 1))
  else Scalar.ofBits .f32 0x00000000#32

def lapA (T : SG.Idx → Elt F .f32) : SG.Idx → Elt F .f32 := fun k => lap T (k 0).val (k 1).val (k 2).val

/-- Where the neighbours stand. -/
theorem nb_place : ∀ c : Dev 16,
    (has 0 c = true → px c = px (nb 0 c) + 1 ∧ py (nb 0 c) = py c ∧ pz (nb 0 c) = pz c)
    ∧ (has 1 c = true → px (nb 1 c) = px c + 1 ∧ py (nb 1 c) = py c ∧ pz (nb 1 c) = pz c)
    ∧ (has 2 c = true → px (nb 2 c) = px c ∧ py c = py (nb 2 c) + 1 ∧ pz (nb 2 c) = pz c)
    ∧ (has 3 c = true → px (nb 3 c) = px c ∧ py (nb 3 c) = py c + 1 ∧ pz (nb 3 c) = pz c)
    ∧ (has 4 c = true → px (nb 4 c) = px c ∧ py (nb 4 c) = py c ∧ pz c = pz (nb 4 c) + 1)
    ∧ (has 5 c = true → px (nb 5 c) = px c ∧ py (nb 5 c) = py c ∧ pz (nb 5 c) = pz c + 1) := by decide

section Block
variable (T : SG.Idx → Elt F .f32) (hT : ∀ c : Dev nD, m ((c : Thread nD τ).loc main_arg0) = blockOf T c)
include hT

omit [FloatOps F] in
theorem xstg_glo (c : Dev nD) (i : S16x16x16.Idx) :
    xstg m ρ c i = glo T (16 * px c + (i 0).val) (16 * py c + (i 1).val) (16 * pz c + (i 2).val) := by
  rw [xstg_eq, hT, block_glo]

omit [FloatOps F] in
/-- What a halo buffer holds, by its place in the whole array. -/
theorem halo_glo (c : Dev nD) (j : Fin 6) (h : has (opp j) c = true) (y : (SH j).Idx) {x' y' z' : ℕ}
    (hx : 16 * px (nb (opp j) c) + (off j 0 + (y 0).val) = x') (hy : 16 * py (nb (opp j) c) + (off j 1 + (y 1).val) = y')
    (hz : 16 * pz (nb (opp j) c) + (off j 2 + (y 2).val) = z') : halo m ρ c j y = glo T x' y' z' := by
  unfold halo
  rw [if_pos h]
  unfold face
  rw [xstg_glo m ρ T hT]
  subst hx hy hz
  refine glo_congr T ?_ ?_ ?_ <;> (rw [Rect.emb_apply]; show _ + (_ + 1 * _) = _; rw [Nat.one_mul]; rfl)

omit [FloatOps F] in
/-- The neighbours of an element inside the whole array. -/
theorem nbr_glo (c : Dev nD) (i : S16x16x16.Idx) (hI : Inside c i) {x y z : ℕ} (hx : 16 * px c + (i 0).val = x) (hy : 16 * py c + (i 1).val = y) (hz : 16 * pz c + (i 2).val = z) :
    nbr (xstg m ρ c) (halo m ρ c) 0 i = glo T (x - 1) y z ∧ nbr (xstg m ρ c) (halo m ρ c) 1 i = glo T (x + 1) y z
    ∧ nbr (xstg m ρ c) (halo m ρ c) 2 i = glo T x (y - 1) z ∧ nbr (xstg m ρ c) (halo m ρ c) 3 i = glo T x (y + 1) z
    ∧ nbr (xstg m ρ c) (halo m ρ c) 4 i = glo T x y (z - 1) ∧ nbr (xstg m ρ c) (halo m ρ c) 5 i = glo T x y (z + 1) := by
  have l0 : (i 0).val < 16 := (i 0).isLt
  have l1 : (i 1).val < 16 := (i 1).isLt
  have l2 : (i 2).val < 16 := (i 2).isLt
  obtain ⟨b0, b1, b2, b3, b4, b5⟩ := has_across c i hI
  obtain ⟨p0, p1, p2, p3, p4, p5⟩ := nb_place c
  refine ⟨?_, ?_, ?_, ?_, ?_, ?_⟩ <;> (unfold nbr; dsimp only; split)
  · next h =>
    have := p0 (b0 h)
    exact halo_glo m ρ T hT c 1 (b0 h) _ (by show 16 * px (nb 0 c) + (15 + 0) = _; omega)
      (by show 16 * py (nb 0 c) + (0 + (i 1).val) = _; omega) (by show 16 * pz (nb 0 c) + (0 + (i 2).val) = _; omega)
  · exact (xstg_glo m ρ T hT c _).trans (glo_congr T (by show 16 * px c + ((i 0).val - 1) = _; omega) (hy) (hz))
  · next h =>
    have := p1 (b1 h)
    exact halo_glo m ρ T hT c 0 (b1 h) _ (by show 16 * px (nb 1 c) + (0 + 0) = _; omega)
      (by show 16 * py (nb 1 c) + (0 + (i 1).val) = _; omega) (by show 16 * pz (nb 1 c) + (0 + (i 2).val) = _; omega)
  · exact (xstg_glo m ρ T hT c _).trans (glo_congr T (by show 16 * px c + ((i 0).val + 1) % 16 = _; omega) (hy) (hz))
  · next h =>
    have := p2 (b2 h)
    exact halo_glo m ρ T hT c 3 (b2 h) _ (by show 16 * px (nb 2 c) + (0 + (i 0).val) = _; omega)
      (by show 16 * py (nb 2 c) + (15 + 0) = _; omega) (by show 16 * pz (nb 2 c) + (0 + (i 2).val) = _; omega)
  · exact (xstg_glo m ρ T hT c _).trans (glo_congr T (hx) (by show 16 * py c + ((i 1).val - 1) = _; omega) (hz))
  · next h =>
    have := p3 (b3 h)
    exact halo_glo m ρ T hT c 2 (b3 h) _ (by show 16 * px (nb 3 c) + (0 + (i 0).val) = _; omega)
      (by show 16 * py (nb 3 c) + (0 + 0) = _; omega) (by show 16 * pz (nb 3 c) + (0 + (i 2).val) = _; omega)
  · exact (xstg_glo m ρ T hT c _).trans (glo_congr T (hx) (by show 16 * py c + ((i 1).val + 1) % 16 = _; omega) (hz))
  · next h =>
    have := p4 (b4 h)
    exact halo_glo m ρ T hT c 5 (b4 h) _ (by show 16 * px (nb 4 c) + (0 + (i 0).val) = _; omega)
      (by show 16 * py (nb 4 c) + (0 + (i 1).val) = _; omega) (by show 16 * pz (nb 4 c) + (15 + 0) = _; omega)
  · exact (xstg_glo m ρ T hT c _).trans (glo_congr T (hx) (hy) (by show 16 * pz c + ((i 2).val - 1) = _; omega))
  · next h =>
    have := p5 (b5 h)
    exact halo_glo m ρ T hT c 4 (b5 h) _ (by show 16 * px (nb 5 c) + (0 + (i 0).val) = _; omega)
      (by show 16 * py (nb 5 c) + (0 + (i 1).val) = _; omega) (by show 16 * pz (nb 5 c) + (0 + 0) = _; omega)
  · exact (xstg_glo m ρ T hT c _).trans (glo_congr T (hx) (hy) (by show 16 * pz c + ((i 2).val + 1) % 16 = _; omega))

/-- The result of every device is its block of the one whole array. -/
theorem outAt_eq (c : Dev nD) : outAt m ρ c = blockOf (lapA T) c := by
  funext i
  unfold outAt
  rw [outW_apply, block_glo (lapA T)]
  obtain ⟨hx, hy, hz⟩ := place_lt c
  have l0 : (i 0).val < 16 := (i 0).isLt
  have l1 : (i 1).val < 16 := (i 1).isLt
  have l2 : (i 2).val < 16 := (i 2).isLt
  have e : glo (lapA T) (16 * px c + (i 0).val) (16 * py c + (i 1).val) (16 * pz c + (i 2).val)
      = lap T (16 * px c + (i 0).val) (16 * py c + (i 1).val) (16 * pz c + (i 2).val) := by
    show lap T ((16 * px c + (i 0).val) % 32) ((16 * py c + (i 1).val) % 32) ((16 * pz c + (i 2).val) % 64) = _
    rw [Nat.mod_eq_of_lt (by omega), Nat.mod_eq_of_lt (by omega), Nat.mod_eq_of_lt (by omega)]
  rw [e]
  unfold lap
  refine if_ctx_congr Iff.rfl (fun hI => ?_) fun _ => rfl
  obtain ⟨n0, n1, n2, n3, n4, n5⟩ := nbr_glo m ρ T hT c i hI rfl rfl rfl
  unfold sum7
  rw [n0, n1, n2, n3, n4, n5, xstg_glo m ρ T hT c i]

end Block

end Cert.KernelIdeal.Halo

end
-- ==== Proof.Reference.lean ====
/-
# The reference's result

The reference adds the six neighbours of every inner element, subtracts six times the element and sets the sums into
an array of zeros. On the extended reals this is the kernel's sum: only the order of the terms differs.
-/
module

public import proofs.«01_k».proof.Proof.KernelIdeal.Result
public import proofs.«01_k».proof.Proof.Gen.ReferenceIdeal.Run
public import Idealize.ShloMosaic.Lib.Routing.OpsSet

@[expose] public section

noncomputable section

namespace Cert.Halo

open Cert.ReferenceIdeal Cert.ReferenceIdeal.Gen
open Idealize.ShloMosaic
open Cert.KernelIdeal.Halo (SG glo glo_at lap lapA)

/-- A vector of the one word 1, and the index vector of the reference's scatter: three of them, one for each axis. -/
abbrev one1 : (s : Shape) × (s.Idx → BitVec 32) := ⟨S1, broadcastInDim S1 ![] bcast_S_S1 (constantI S_ 32 1#32)⟩
abbrev ones : IVec S3 32 := concatenate S3 0 [one1, one1, one1] concatenates_S1_S1_S1_S3_d0

theorem ones_apply (b : S3.Idx) : ones b = 1#32 := by
  have hb : (b 0).val < 3 := (b 0).isLt
  have piece (k : ℕ) (hk : k < 3) (hx : [one1, one1, one1][k] = one1)
      (hp : ((([one1, one1, one1].take k).map (·.1)).map fun s => if h : s.rank = S3.rank then s.size ((0 : Fin 1).cast h.symm) else 0).sum = k)
      (hbk : (b 0).val = k) : ones b = 1#32 :=
    concatenate_apply_piece 0 [one1, one1, one1] concatenates_S1_S1_S1_S3_d0 b k hk S1 one1.2 hx rfl k hp (ix1 (0 : Fin 1))
      (fun a ha => absurd (Subsingleton.elim (α := Fin 1) _ _) ha) hbk.symm
  rcases (by omega : (b 0).val = 0 ∨ (b 0).val = 1 ∨ (b 0).val = 2) with h | h | h
  · exact piece 0 (by decide) rfl rfl h
  · exact piece 1 (by decide) rfl rfl h
  · exact piece 2 (by decide) rfl rfl h

abbrev dims := scatter_S32x32x64_S3_S30x30x62_012_n_012_0

theorem start_one (k : S30x30x62.Idx) (a : Fin 3) : dims.start k ones a = 1 := by
  unfold ScatterDims.start
  rw [dif_pos (by fin_cases a <;> decide), ones_apply]
  rfl

theorem window_val (k : S30x30x62.Idx) (a : Fin 3) : dims.window k a = (k a).val := by
  fin_cases a <;> rfl

/-- Update `k` lands one further on every axis. -/
theorem lands (k : S30x30x62.Idx) (i : S32x32x64.Idx) : dims.resultIdx? k ones = some i ↔ ∀ a : Fin 3, (k a).val + 1 = (i a).val := by
  rw [Routing.resultIdx?_eq_some]
  refine forall_congr' fun a => ?_
  rw [start_one, window_val]
  omega

/-- A setting into the inside of an array, read at an element. -/
theorem set_apply {α : Type} (z : S32x32x64.Idx → α) (v : S30x30x62.Idx → α) (i : S32x32x64.Idx) :
    Host.scatter dims (fun _ b => b) z ones v i
      = if h : (0 < (i 0).val ∧ (i 0).val < 31) ∧ (0 < (i 1).val ∧ (i 1).val < 31) ∧ 0 < (i 2).val ∧ (i 2).val < 63 then
          v (ix3 (⟨(i 0).val - 1, by omega⟩ : Fin 30) (⟨(i 1).val - 1, by omega⟩ : Fin 30) (⟨(i 2).val - 1, by omega⟩ : Fin 62))
        else z i := by
  split
  · next h =>
    refine Routing.scatter_set_hit _ _ _ _ _ _ (fun k hk => ?_) (ix3 (⟨(i 0).val - 1, by omega⟩ : Fin 30) (⟨(i 1).val - 1, by omega⟩ : Fin 30) (⟨(i 2).val - 1, by omega⟩ : Fin 62)) ?_
    · rw [lands] at hk
      refine congrArg v (funext fun a => Fin.ext ?_)
      have := hk a
      fin_cases a
      · show _ = (i 0).val - 1; rw [← hk 0]; rfl
      · show _ = (i 1).val - 1; rw [← hk 1]; rfl
      · show _ = (i 2).val - 1; rw [← hk 2]; rfl
    · rw [lands]
      intro a
      fin_cases a
      · show (i 0).val - 1 + 1 = (i 0).val; omega
      · show (i 1).val - 1 + 1 = (i 1).val; omega
      · show (i 2).val - 1 + 1 = (i 2).val; omega
  · next h =>
    refine Routing.scatter_set_miss _ _ _ _ _ fun k hk => h ?_
    rw [lands] at hk
    have k0 : (k 0).val < 30 := (k 0).isLt
    have k1 : (k 1).val < 30 := (k 1).isLt
    have k2 : (k 2).val < 62 := (k 2).isLt
    have := hk 0; have := hk 1; have := hk 2
    omega

/-- A slice of the whole array at an inner element is the whole array at the element, shifted. -/
theorem slice_glo {α : Type} (T : SG.Idx → α) (off : Fin 3 → ℕ) (hs : S32x32x64.Slices off S30x30x62) {a b c : ℕ} (ha : a < 30) (hb : b < 30) (hc : c < 62) {x y z : ℕ}
    (hx : x = off 0 + a) (hy : y = off 1 + b) (hz : z = off 2 + c) :
    extractStridedSlice S30x30x62 off T hs (ix3 (⟨a, ha⟩ : Fin 30) (⟨b, hb⟩ : Fin 30) (⟨c, hc⟩ : Fin 62)) = glo T x y z := by
  unfold extractStridedSlice
  exact (glo_at T _ hx hy hz).symm

theorem six_word : (FloatOps.ofBits (F := Ideal) .f32 0x40C00000#32 : EReal) = 6 := by
  simp [Ideal.ofBits, Ideal.ieee, -EReal.coe_mul]; norm_num; rfl
theorem neg_six_word : (FloatOps.ofBits (F := Ideal) .f32 0xC0C00000#32 : EReal) = -6 := by
  simp [Ideal.ofBits, Ideal.ieee, -EReal.coe_mul]; norm_num; rfl

/-- The two orders of the seven terms agree. -/
theorem order (u a b c d e f : EReal) : a + b + c + d + e + f - 6 * u = -6 * u + a + b + c + d + e + f := by
  rw [sub_eq_add_neg, ← EReal.neg_mul]
  ac_rfl

theorem add_at {s : Shape} (a b : FVec Ideal s .f32) (k : s.Idx) : addf a b k = (a k + b k : EReal) := rfl
theorem sub_at {s : Shape} (a b : FVec Ideal s .f32) (k : s.Idx) : subf a b k = (a k - b k : EReal) := rfl
theorem mul_at {s : Shape} (a b : FVec Ideal s .f32) (k : s.Idx) : mulf a b k = (a k * b k : EReal) := rfl

/-- The reference's result, as it is computed from its argument. -/
def refA (T : SG.Idx → Ideal .f32) : SG.Idx → Ideal .f32 :=
  Host.scatter dims (fun _ b => b) (broadcastInDim S32x32x64 ![] bcast_S_S32x32x64 (constant S_ .f32 0x00000000#32)) ones
    (subf (addf (addf (addf (addf (addf (extractStridedSlice S30x30x62 ![0, 1, 1] T slices_S32x32x64_S30x30x62_0_1_1)
      (extractStridedSlice S30x30x62 ![2, 1, 1] T slices_S32x32x64_S30x30x62_2_1_1)) (extractStridedSlice S30x30x62 ![1, 0, 1] T slices_S32x32x64_S30x30x62_1_0_1))
      (extractStridedSlice S30x30x62 ![1, 2, 1] T slices_S32x32x64_S30x30x62_1_2_1)) (extractStridedSlice S30x30x62 ![1, 1, 0] T slices_S32x32x64_S30x30x62_1_1_0))
      (extractStridedSlice S30x30x62 ![1, 1, 2] T slices_S32x32x64_S30x30x62_1_1_2))
      (mulf (broadcastInDim S30x30x62 ![] bcast_S_S30x30x62 (constant S_ .f32 0x40C00000#32)) (extractStridedSlice S30x30x62 ![1, 1, 1] T slices_S32x32x64_S30x30x62_1_1_1)))

/-- It is the array of which the devices hold their blocks. -/
theorem refA_eq (T : SG.Idx → Ideal .f32) : refA T = lapA (F := Ideal) T := by
  funext i
  unfold refA lapA lap
  rw [set_apply]
  split
  · next h =>
    simp only [sub_at, add_at, mul_at]
    rw [slice_glo T ![0, 1, 1] _ (by omega) (by omega) (by omega) (x := (i 0).val - 1) (y := (i 1).val) (z := (i 2).val) (by show _ = 0 + _; omega) (by show _ = 1 + _; omega) (by show _ = 1 + _; omega),
      slice_glo T ![2, 1, 1] _ (by omega) (by omega) (by omega) (x := (i 0).val + 1) (y := (i 1).val) (z := (i 2).val) (by show _ = 2 + _; omega) (by show _ = 1 + _; omega) (by show _ = 1 + _; omega),
      slice_glo T ![1, 0, 1] _ (by omega) (by omega) (by omega) (x := (i 0).val) (y := (i 1).val - 1) (z := (i 2).val) (by show _ = 1 + _; omega) (by show _ = 0 + _; omega) (by show _ = 1 + _; omega),
      slice_glo T ![1, 2, 1] _ (by omega) (by omega) (by omega) (x := (i 0).val) (y := (i 1).val + 1) (z := (i 2).val) (by show _ = 1 + _; omega) (by show _ = 2 + _; omega) (by show _ = 1 + _; omega),
      slice_glo T ![1, 1, 0] _ (by omega) (by omega) (by omega) (x := (i 0).val) (y := (i 1).val) (z := (i 2).val - 1) (by show _ = 1 + _; omega) (by show _ = 1 + _; omega) (by show _ = 0 + _; omega),
      slice_glo T ![1, 1, 2] _ (by omega) (by omega) (by omega) (x := (i 0).val) (y := (i 1).val) (z := (i 2).val + 1) (by show _ = 1 + _; omega) (by show _ = 1 + _; omega) (by show _ = 2 + _; omega),
      slice_glo T ![1, 1, 1] _ (by omega) (by omega) (by omega) (x := (i 0).val) (y := (i 1).val) (z := (i 2).val) (by show _ = 1 + _; omega) (by show _ = 1 + _; omega) (by show _ = 1 + _; omega)]
    refine Eq.trans (congrArg (fun w : EReal => _ - w * _) six_word) ?_
    refine (order _ _ _ _ _ _ _).trans ?_
    rw [← neg_six_word]
    rfl
  · rfl

end Cert.Halo

end
-- ==== Proof.Claims.lean ====
/-
# The claims

Each frame is a run with its values dropped; the value claim is the kernel's run beside the reference's.
-/
module

public import proofs.«01_k».proof.Defs
public import proofs.«01_k».proof.Proof.Kernel.Launch
public import proofs.«01_k».proof.Proof.KernelIdeal.Result
public import proofs.«01_k».proof.Proof.Reference
public import Idealize.ShloMosaic.Lib.Quiescent

@[expose] public section

noncomputable section

namespace Cert.Halo

open Idealize.ShloMosaic Idealize.ShloMosaic.TcCoe Idealize.SL.Sem

/-- The kernel terminates on all sixteen devices, its argument unchanged and every semaphore at zero. -/
theorem kernel_frame : quiescent_Kernel (hKernel := Cert.Kernel.Gen.facts) := fun m g _ =>
  (θ_run Cert.Kernel.defs _ _).mono
    (fun r h => ⟨fun c => (h.1 c (0 : Fin 2)).trans (Cert.Kernel.Halo.finalA_x m g c), h.2⟩)
    (Cert.Kernel.Halo.run_main m g)

/-- The same on the extended reals. -/
theorem ideal_frame : quiescent_KernelIdeal (hKernelIdeal := Cert.KernelIdeal.Gen.facts) := fun m g _ =>
  (θ_run Cert.KernelIdeal.defs _ _).mono (fun r h => ⟨fun c => (h.1 c).2, h.2⟩) (Cert.KernelIdeal.Halo.run m g)

/-- The reference terminates with its argument unchanged; it declares no semaphore, so there is none to return. -/
theorem reference_frame : quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run m g)

/-- Each device's result is its block of the reference's result. -/
theorem value : algebraic_KernelIdeal_ReferenceIdeal (hKernelIdeal := Cert.KernelIdeal.Gen.facts)
    (hReferenceIdeal := Cert.ReferenceIdeal.Gen.facts) :=
  fun m g m' g' _ hT =>
    ⟨Cert.KernelIdeal.Halo.lapA (F := Ideal) (m' ((0 : Dev Cert.ReferenceIdeal.nD).tc.loc Cert.ReferenceIdeal.main_arg0)),
      (θ_run Cert.KernelIdeal.defs _ _).mono
        (fun r h c => ⟨(h.1 c).1.trans (Cert.KernelIdeal.Halo.outAt_eq m g _ hT c), (h.1 c).2⟩)
        (Cert.KernelIdeal.Halo.run m g),
      (θ_run Cert.ReferenceIdeal.defs _ _).mono (fun r h => ⟨(h 0).1.trans (refA_eq _), (h 0).2⟩)
        (Cert.ReferenceIdeal.Value.run m' g')⟩

end Cert.Halo

end
-- ==== Proof.lean ====
/-
# The certificate

The five claims about the halo exchange with its seven-point stencil, each proved in `Proof/Claims.lean`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

/-- All five claims together. -/
theorem claim : Cert.Claim := ⟨Cert.Kernel.Gen.facts, Cert.KernelIdeal.Gen.facts, Cert.ReferenceIdeal.Gen.facts,
  Cert.Halo.kernel_frame, Cert.Halo.ideal_frame, Cert.Halo.reference_frame, trivial, Cert.Halo.value⟩

end Cert.Proof

end
